-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_GuardedIdeal (m : (ℓ : Loc Cert.GuardedIdeal.nD Cert.GuardedIdeal.τ Cert.GuardedIdeal.sig) → Buf (Elt Ideal) ℓ) : Prop :=
  True

def Pre_GuardedIdeal_bounded_GuardedIdeal [hPre_bounded_GuardedIdeal : Cert.Pre_bounded_GuardedIdeal.Facts] (m : (ℓ : Loc Cert.GuardedIdeal.nD Cert.GuardedIdeal.τ Cert.GuardedIdeal.sig) → Buf (Elt Ideal) ℓ) : Prop :=
  ∀ c : Dev Cert.GuardedIdeal.nD,
    (Cert.Pre_bounded_GuardedIdeal.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1)) (m ((c.tc : Thread Cert.GuardedIdeal.nD Cert.GuardedIdeal.τ).loc Cert.GuardedIdeal.main_arg2))).1 = (fun _ => 1#1)
    ∧ (Cert.Pre_bounded_GuardedIdeal.fn (F := Ideal) (m ((c.tc : Thread Cert.GuardedIdeal.nD Cert.GuardedIdeal.τ).loc Cert.GuardedIdeal.main_arg0)) (m ((c.tc : Thread Cert.GuardedIdeal.nD Cert.GuardedIdeal.τ).loc Cert.GuardedIdeal.main_arg1)) (m ((c.tc : Thread Cert.GuardedIdeal.nD Cert.GuardedIdeal.τ).loc Cert.GuardedIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_GuardedIdeal [hGuardedIdeal : Cert.GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2))
      ∧ r.2.sem = fun _ => 0)

def quiescent_GuardedIdeal_pre_bounded_GuardedIdeal [hGuardedIdeal : Cert.GuardedIdeal.Facts] [hPre_bounded_GuardedIdeal : Cert.Pre_bounded_GuardedIdeal.Facts] : Prop :=
  ∀ (m : (ℓ : Loc Cert.GuardedIdeal.nD Cert.GuardedIdeal.τ Cert.GuardedIdeal.sig) → Buf (Elt Ideal) ℓ) (g : Dev Cert.GuardedIdeal.nD → PrngReg), Pre_GuardedIdeal_bounded_GuardedIdeal m →
    θ_run (Cert.GuardedIdeal.defs (F := Ideal)) (onTc (τ := Cert.GuardedIdeal.τ) (Cert.GuardedIdeal.main (F := Ideal))) ⟨m, fun _ => 0, g⟩ (fun r => (∀ c : Dev Cert.GuardedIdeal.nD,
      r.2.mem ((c.tc : Thread Cert.GuardedIdeal.nD Cert.GuardedIdeal.τ).loc Cert.GuardedIdeal.main_arg0) = m ((c.tc : Thread Cert.GuardedIdeal.nD Cert.GuardedIdeal.τ).loc Cert.GuardedIdeal.main_arg0)
      ∧ r.2.mem ((c.tc : Thread Cert.GuardedIdeal.nD Cert.GuardedIdeal.τ).loc Cert.GuardedIdeal.main_arg1) = m ((c.tc : Thread Cert.GuardedIdeal.nD Cert.GuardedIdeal.τ).loc Cert.GuardedIdeal.main_arg1)
      ∧ r.2.mem ((c.tc : Thread Cert.GuardedIdeal.nD Cert.GuardedIdeal.τ).loc Cert.GuardedIdeal.main_arg2) = m ((c.tc : Thread Cert.GuardedIdeal.nD Cert.GuardedIdeal.τ).loc Cert.GuardedIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![1024, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def algebraic_KernelIdeal_GuardedIdeal_pre_bounded_KernelIdeal [hKernelIdeal : Cert.KernelIdeal.Facts] [hGuardedIdeal : Cert.GuardedIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.GuardedIdeal.nD Cert.GuardedIdeal.τ Cert.GuardedIdeal.sig) → Buf (Elt Ideal) ℓ) (g' : Dev Cert.GuardedIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![4096, 1024]⟩ 0 4 c (m' (((0 : Dev Cert.GuardedIdeal.nD).tc : Thread Cert.GuardedIdeal.nD Cert.GuardedIdeal.τ).loc Cert.GuardedIdeal.main_arg0))
      ∧ m ((c.tc : Thread Cert.KernelIdeal.nD Cert.KernelIdeal.τ).loc Cert.KernelIdeal.main_arg1) = Layout.block ⟨2, ![1024, 4096]⟩ ⟨2, ![1024, 16384]⟩ 1 4 c (m' (((0 : Dev Cert.GuardedIdeal.nD).tc : Thread Cert.GuardedIdeal.nD Cert.GuardedIdeal.τ).loc Cert.GuardedIdeal.main_arg1))
      ∧ m ((c.tc : Thread Cert.KernelIdeal.nD Cert.KernelIdeal.τ).loc Cert.KernelIdeal.main_arg2) = Layout.block ⟨2, ![4096, 1024]⟩ ⟨2, ![16384, 1024]⟩ 0 4 c (m' (((0 : Dev Cert.GuardedIdeal.nD).tc : Thread Cert.GuardedIdeal.nD Cert.GuardedIdeal.τ).loc Cert.GuardedIdeal.main_arg2))) →
    ∃ (v0 : Buf (Elt Ideal) (((0 : Dev Cert.GuardedIdeal.nD).tc : Thread Cert.GuardedIdeal.nD Cert.GuardedIdeal.τ).loc Cert.GuardedIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![1024, 1024]⟩ ⟨2, ![4096, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.GuardedIdeal.defs (F := Ideal)) (onTc (τ := Cert.GuardedIdeal.τ) (Cert.GuardedIdeal.main (F := Ideal))) ⟨m', fun _ => 0, g'⟩ (fun r =>
          r.2.mem (((0 : Dev Cert.GuardedIdeal.nD).tc : Thread Cert.GuardedIdeal.nD Cert.GuardedIdeal.τ).loc Cert.GuardedIdeal.main_v7) = v0
          ∧ r.2.mem (((0 : Dev Cert.GuardedIdeal.nD).tc : Thread Cert.GuardedIdeal.nD Cert.GuardedIdeal.τ).loc Cert.GuardedIdeal.main_arg0) = m' (((0 : Dev Cert.GuardedIdeal.nD).tc : Thread Cert.GuardedIdeal.nD Cert.GuardedIdeal.τ).loc Cert.GuardedIdeal.main_arg0)
          ∧ r.2.mem (((0 : Dev Cert.GuardedIdeal.nD).tc : Thread Cert.GuardedIdeal.nD Cert.GuardedIdeal.τ).loc Cert.GuardedIdeal.main_arg1) = m' (((0 : Dev Cert.GuardedIdeal.nD).tc : Thread Cert.GuardedIdeal.nD Cert.GuardedIdeal.τ).loc Cert.GuardedIdeal.main_arg1)
          ∧ r.2.mem (((0 : Dev Cert.GuardedIdeal.nD).tc : Thread Cert.GuardedIdeal.nD Cert.GuardedIdeal.τ).loc Cert.GuardedIdeal.main_arg2) = m' (((0 : Dev Cert.GuardedIdeal.nD).tc : Thread Cert.GuardedIdeal.nD Cert.GuardedIdeal.τ).loc Cert.GuardedIdeal.main_arg2))

def Claim : Prop :=
  ∃ (hKernel : Cert.Kernel.Facts) (hKernelIdeal : Cert.KernelIdeal.Facts) (hReferenceIdeal : Cert.ReferenceIdeal.Facts) (hGuardedIdeal : Cert.GuardedIdeal.Facts) (hPre_bounded_KernelIdeal : Cert.Pre_bounded_KernelIdeal.Facts) (hPre_bounded_GuardedIdeal : Cert.Pre_bounded_GuardedIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_GuardedIdeal (hGuardedIdeal := hGuardedIdeal)
    ∧ quiescent_GuardedIdeal_pre_bounded_GuardedIdeal (hGuardedIdeal := hGuardedIdeal) (hPre_bounded_GuardedIdeal := hPre_bounded_GuardedIdeal)
    ∧ preserves_Kernel_KernelIdeal
    ∧ algebraic_KernelIdeal_ReferenceIdeal (hKernelIdeal := hKernelIdeal) (hReferenceIdeal := hReferenceIdeal)
    ∧ algebraic_KernelIdeal_GuardedIdeal_pre_bounded_KernelIdeal (hKernelIdeal := hKernelIdeal) (hGuardedIdeal := hGuardedIdeal) (hPre_bounded_KernelIdeal := hPre_bounded_KernelIdeal)
-- ==== Pre_bounded_GuardedIdeal.lean ====
abbrev S4096x1024 : Shape := ⟨2, ![4096, 1024]⟩
abbrev S1024x16384 : Shape := ⟨2, ![1024, 16384]⟩
abbrev S16384x1024 : Shape := ⟨2, ![16384, 1024]⟩
abbrev S_ : Shape := ⟨0, ![]⟩
abbrev S4096 : Shape := ⟨1, ![4096]⟩
abbrev S16384 : Shape := ⟨1, ![16384]⟩

class Facts : Prop where
  reducesTo_S4096x1024_S4096_d1 : S4096x1024.ReducesTo [1] S4096
  h_S_ : 0 < S_.numel
  bcast_S_S4096 : S_.BroadcastsInDim S4096 (![] : Fin 0 → Fin S4096.rank)
  reducesTo_S1024x16384_S16384_d0 : S1024x16384.ReducesTo [0] S16384
  bcast_S_S16384 : S_.BroadcastsInDim S16384 (![] : Fin 0 → Fin S16384.rank)

variable [Facts]

def fn {F : FTy → Type} [FloatOps F] (main_arg0 : FVec F S4096x1024 .f32) (main_arg1 : FVec F S1024x16384 .f32) (main_arg2 : FVec F S16384x1024 .f32) : IVec S4096 1 × IVec S16384 1 :=
  let main_v0 : FVec F S4096x1024 .f32 := mulf main_arg0 main_arg0
  let main_cst : FVec F S_ .f32 := constant S_ .f32 0x00000000#32
  let main_v1 : FVec F S4096 .f32 := (fun x v => Host.reduceAdd x v reducesTo_S4096x1024_S4096_d1 h_S_) main_v0 main_cst
  let main_cst_0 : FVec F S_ .f32 := constant S_ .f32 0x44C80000#32
  let main_v2 : FVec F S4096 .f32 := broadcastInDim S4096 ![] bcast_S_S4096 main_cst_0
  let main_v3 : IVec S4096 1 := cmpf .ole main_v1 main_v2
  let main_v4 : FVec F S1024x16384 .f32 := mulf main_arg1 main_arg1
  let main_cst_1 : FVec F S_ .f32 := constant S_ .f32 0x00000000#32
  let main_v5 : FVec F S16384 .f32 := (fun x v => Host.reduceAdd x v reducesTo_S1024x16384_S16384_d0 h_S_) main_v4 main_cst_1
  let main_cst_2 : FVec F S_ .f32 := constant S_ .f32 0x40100000#32
  let main_v6 : FVec F S16384 .f32 := broadcastInDim S16384 ![] bcast_S_S16384 main_cst_2
  let main_v7 : IVec S16384 1 := cmpf .ole main_v5 main_v6
  (main_v3, main_v7)
-- ==== Pre_bounded_KernelIdeal.lean ====
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S1024 : Shape := ⟨1, ![1024]⟩
abbrev S4096 : Shape := ⟨1, ![4096]⟩

class Facts : Prop where
  reducesTo_S1024x1024_S1024_d1 : S1024x1024.ReducesTo [1] S1024
  h_S_ : 0 < S_.numel
  bcast_S_S1024 : S_.BroadcastsInDim S1024 (![] : Fin 0 → Fin S1024.rank)
  reducesTo_S1024x4096_S4096_d0 : S1024x4096.ReducesTo [0] S4096
  bcast_S_S4096 : S_.BroadcastsInDim S4096 (![] : Fin 0 → Fin S4096.rank)

variable [Facts]

def fn {F : FTy → Type} [FloatOps F] (main_arg0 : FVec F S1024x1024 .f32) (main_arg1 : FVec F S1024x4096 .f32) (main_arg2 : FVec F S4096x1024 .f32) : IVec S1024 1 × IVec S4096 1 :=
  let main_v0 : FVec F S1024x1024 .f32 := mulf main_arg0 main_arg0
  let main_cst : FVec F S_ .f32 := constant S_ .f32 0x00000000#32
  let main_v1 : FVec F S1024 .f32 := (fun x v => Host.reduceAdd x v reducesTo_S1024x1024_S1024_d1 h_S_) main_v0 main_cst
  let main_cst_0 : FVec F S_ .f32 := constant S_ .f32 0x44C80000#32
  let main_v2 : FVec F S1024 .f32 := broadcastInDim S1024 ![] bcast_S_S1024 main_cst_0
  let main_v3 : IVec S1024 1 := cmpf .ole main_v1 main_v2
  let main_v4 : FVec F S1024x4096 .f32 := mulf main_arg1 main_arg1
  let main_cst_1 : FVec F S_ .f32 := constant S_ .f32 0x00000000#32
  let main_v5 : FVec F S4096 .f32 := (fun x v => Host.reduceAdd x v reducesTo_S1024x4096_S4096_d0 h_S_) main_v4 main_cst_1
  let main_cst_2 : FVec F S_ .f32 := constant S_ .f32 0x40100000#32
  let main_v6 : FVec F S4096 .f32 := broadcastInDim S4096 ![] bcast_S_S4096 main_cst_2
  let main_v7 : IVec S4096 1 := cmpf .ole main_v5 main_v6
  (main_v3, main_v7)
-- ==== Kernel.lean ====
abbrev S1024x1024 : Shape := ⟨2, ![1024, 1024]⟩
abbrev S1024x4096 : Shape := ⟨2, ![1024, 4096]⟩
abbrev S4096x1024 : Shape := ⟨2, ![4096, 1024]⟩
abbrev S2x1024x512 : Shape := ⟨3, ![2, 1024, 512]⟩
abbrev S2x512x1024 : Shape := ⟨3, ![2, 512, 1024]⟩
abbrev S3x512x1024 : Shape := ⟨3, ![3, 512, 1024]⟩
abbrev S4 : Shape := ⟨1, ![4]⟩
abbrev S3 : Shape := ⟨1, ![3]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 5
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S4096x1024, .f32⟩
  | .hbm, ⟨3, _⟩ => ⟨S1024x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .f32⟩
  | .local _ .vmem, ⟨2, _⟩ => ⟨S1024x4096, .bf16⟩
  | .local _ .vmem, ⟨3, _⟩ => ⟨S4096x1024, .bf16⟩
  | .local _ .vmem, ⟨4, _⟩ => ⟨S2x1024x512, .f32⟩
  | .local _ .vmem, ⟨5, _⟩ => ⟨S2x512x1024, .f32⟩
  | .local _ .vmem, ⟨6, _⟩ => ⟨S3x512x1024, .bf16⟩
  | .local _ .vmem, ⟨7, _⟩ => ⟨S3x512x1024, .bf16⟩
  | .local _ .vmem, ⟨8, _⟩ => ⟨S3x512x1024, .bf16⟩
  | .local _ .vmem, ⟨9, _⟩ => ⟨S3x512x1024, .bf16⟩
  | .local _ .vmem, ⟨10, _⟩ => ⟨S3x512x1024, .bf16⟩
  | .local _ .vmem, ⟨11, _⟩ => ⟨S3x512x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 2 → Bool
  | ⟨0, _⟩ => false
  | ⟨1, _⟩ => true
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 2 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v13 : BitVec 32 := Scalar.muli v7 c1_i32_13
  let v14 : BitVec 32 := Scalar.addi c0_i32_14 v13
  v14.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_22 : BitVec 32 := 1#32
  let v22 : BitVec 32 := Scalar.muli v5 c1_i32_22
  let v23 : BitVec 32 := Scalar.addi c0_i32_23 v22
  v23.toNat
def k0_dev5 (d0 : Dev nD) : Nat :=
  let c0_i32_357 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_356 : BitVec 32 := 1#32
  let v367 : BitVec 32 := Scalar.muli v7 c1_i32_356
  let v368 : BitVec 32 := Scalar.addi c0_i32_357 v367
  v368.toNat
def k0_dev6 (d0 : Dev nD) : Nat :=
  let c0_i32_367 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_366 : BitVec 32 := 1#32
  let v377 : BitVec 32 := Scalar.muli v5 c1_i32_366
  let v378 : BitVec 32 := Scalar.addi c0_i32_367 v377
  v378.toNat
def k0_dev7 (d0 : Dev nD) : Nat :=
  let c0_i32_407 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_406 : BitVec 32 := 1#32
  let v424 : BitVec 32 := Scalar.muli v7 c1_i32_406
  let v425 : BitVec 32 := Scalar.addi c0_i32_407 v424
  v425.toNat
def k0_dev8 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_446 : BitVec 32 := 1#32
  let v471 : BitVec 32 := Scalar.muli v5 c1_i32_446
  let v472 : BitVec 32 := Scalar.addi c0_i32_447 v471
  v472.toNat
def k0_dev9 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_476 : BitVec 32 := 1#32
  let v497 : BitVec 32 := Scalar.muli v7 c1_i32_476
  let v498 : BitVec 32 := Scalar.addi c0_i32_477 v497
  v498.toNat
def k0_dev10 (d0 : Dev nD) : Nat :=
  let c0_i32_487 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_486 : BitVec 32 := 1#32
  let v507 : BitVec 32 := Scalar.muli v5 c1_i32_486
  let v508 : BitVec 32 := Scalar.addi c0_i32_487 v507
  v508.toNat
def k0_dev11 (d0 : Dev nD) : Nat :=
  let c0_i32_540 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_539 : BitVec 32 := 1#32
  let v566 : BitVec 32 := Scalar.muli v7 c1_i32_539
  let v567 : BitVec 32 := Scalar.addi c0_i32_540 v566
  v567.toNat
def k0_dev12 (d0 : Dev nD) : Nat :=
  let c0_i32_593 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_592 : BitVec 32 := 1#32
  let v625 : BitVec 32 := Scalar.muli v5 c1_i32_592
  let v626 : BitVec 32 := Scalar.addi c0_i32_593 v625
  v626.toNat
def k0_dev13 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_664 : BitVec 32 := 1#32
  let v700 : BitVec 32 := Scalar.muli v7 c1_i32_664
  let v701 : BitVec 32 := Scalar.addi c0_i32_665 v700
  v701.toNat
def k0_dev14 (d0 : Dev nD) : Nat :=
  let c0_i32_718 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_717 : BitVec 32 := 1#32
  let v759 : BitVec 32 := Scalar.muli v5 c1_i32_717
  let v760 : BitVec 32 := Scalar.addi c0_i32_718 v759
  v760.toNat
def k0_dev15 (d0 : Dev nD) : Nat :=
  let c0_i32_893_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_892_r0 : BitVec 32 := 1#32
  let v904_r0 : BitVec 32 := Scalar.muli v5 c1_i32_892_r0
  let v905_r0 : BitVec 32 := Scalar.addi c0_i32_893_r0 v904_r0
  v905_r0.toNat
def k0_dev16 (d0 : Dev nD) : Nat :=
  let c0_i32_896_r0 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_895_r0 : BitVec 32 := 1#32
  let v906_r0 : BitVec 32 := Scalar.muli v7 c1_i32_895_r0
  let v907_r0 : BitVec 32 := Scalar.addi c0_i32_896_r0 v906_r0
  v907_r0.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x1024 : Shape := ⟨2, ![4096, 1024]⟩
abbrev S1024x16384 : Shape := ⟨2, ![1024, 16384]⟩
abbrev S16384x1024 : Shape := ⟨2, ![16384, 1024]⟩
abbrev S4096x16384 : Shape := ⟨2, ![4096, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x16384, .f32⟩
  | .hbm, ⟨2, _⟩ => ⟨S16384x1024, .f32⟩
  | .hbm, ⟨3, _⟩ => ⟨S4096x16384, .f32⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S4096x16384, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GuardedIdeal.lean ====
abbrev S4096x1024 : Shape := ⟨2, ![4096, 1024]⟩
abbrev S1024x16384 : Shape := ⟨2, ![1024, 16384]⟩
abbrev S16384x1024 : Shape := ⟨2, ![16384, 1024]⟩
abbrev S4096x16384 : Shape := ⟨2, ![4096, 16384]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x16384, .f32⟩
  | .hbm, ⟨2, _⟩ => ⟨S16384x1024, .f32⟩
  | .hbm, ⟨3, _⟩ => ⟨S4096x16384, .f32⟩
  | .hbm, ⟨4, _⟩ => ⟨S_, .i32⟩
  | .hbm, ⟨5, _⟩ => ⟨S_, .i32⟩
  | .hbm, ⟨6, _⟩ => ⟨S_, .f32⟩
  | .hbm, ⟨7, _⟩ => ⟨S4096x16384, .f32⟩
  | .hbm, ⟨8, _⟩ => ⟨S4096x16384, .f32⟩
  | .hbm, ⟨9, _⟩ => ⟨S_, .f32⟩
  | .hbm, ⟨10, _⟩ => ⟨S4096x16384, .f32⟩
  | .hbm, ⟨11, _⟩ => ⟨S4096x16384, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .f32⟩
  | .hbm, ⟨17, _⟩ => ⟨S4096x16384, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Proof.Prog.lean ====
/-
  The kernel's body as a short program over its own vocabulary: one definition per thing it does (start the copy of a
  weight tile, stream a tile, send a message of a channel, compute a partial product, drain), indexed by the tile or
  by the message. The printed body is this program by definitional unfolding.
-/
module

public import proofs.«01_k».proof.Proof.Gen.KernelIdeal.Points
public import proofs.«01_k».proof.Proof.Gen.KernelIdeal.Skeleton

@[expose] public section

noncomputable section

namespace Cert.KernelIdeal.Fused

open Idealize.ShloMosaic Idealize.ShloMosaic.TcCoe
open Idealize.SL Idealize.SL.Sem
open Cert.KernelIdeal.Gen

variable {F : FTy → Type} [FloatOps F]

/-! ## The memrefs -/

abbrev xM : Memref sig .tc .vmem S1024x1024 .bf16 := Memref.whole cc0_stg0_0
abbrev oM : Memref sig .tc .vmem S1024x1024 .f32 := Memref.whole cc0_stg1_0
abbrev w1M : Memref sig .tc .hbm S1024x4096 .f32 := Memref.whole main_arg1
abbrev w2M : Memref sig .tc .hbm S4096x1024 .f32 := Memref.whole main_arg2
abbrev b1M : Memref sig .tc .vmem S1024x4096 .bf16 := Memref.whole cc0_scratch0
abbrev b2M : Memref sig .tc .vmem S4096x1024 .bf16 := Memref.whole cc0_scratch1
abbrev s1M : Memref sig .tc .vmem S2x1024x512 .f32 := Memref.whole cc0_scratch2
abbrev s2M : Memref sig .tc .vmem S2x512x1024 .f32 := Memref.whole cc0_scratch3

/-! ## Rectangles -/

theorem inb_row (h : Fin 2) : ∀ a, (![512 * h.val, 0] : Fin 2 → Nat) a + S512x1024.size a ≤ S1024x1024.size a := by
  revert h; decide
theorem inb_w1 (k : Fin 8) : ∀ a, (![0, 512 * k.val] : Fin 2 → Nat) a + S1024x512.size a ≤ S1024x4096.size a := by
  revert k; decide
theorem inb_w2 (k : Fin 8) : ∀ a, (![512 * k.val, 0] : Fin 2 → Nat) a + S512x1024.size a ≤ S4096x1024.size a := by
  revert k; decide
theorem inb_v1 (j : Fin 4) : ∀ a, (![0, 1024 * j.val] : Fin 2 → Nat) a + S1024x1024.size a ≤ S1024x4096.size a := by
  revert j; decide
theorem inb_v2 (j : Fin 4) : ∀ a, (![1024 * j.val, 0] : Fin 2 → Nat) a + S1024x1024.size a ≤ S4096x1024.size a := by
  revert j; decide
theorem inb_s1 (b : Fin 2) : ∀ a, (![b.val, 0, 0] : Fin 3 → Nat) a + S1x1024x512.size a ≤ S2x1024x512.size a := by
  revert b; decide
theorem inb_s2 (b : Fin 2) : ∀ a, (![b.val, 0, 0] : Fin 3 → Nat) a + S1x512x1024.size a ≤ S2x512x1024.size a := by
  revert b; decide
theorem inb_slot (t : Fin 3) : ∀ a, (![t.val, 0, 0] : Fin 3 → Nat) a + S1x512x1024.size a ≤ S3x512x1024.size a := by
  revert t; decide
theorem inb_sem4 (n : Fin 4) : ∀ a, (![n.val] : Fin 1 → Nat) a + S1.size a ≤ S4.size a := by
  revert n; decide
theorem inb_sem3 (n : Fin 3) : ∀ a, (![n.val] : Fin 1 → Nat) a + S1.size a ≤ S3.size a := by
  revert n; decide

/-- The upper or lower half of the rows of a block of 1024 rows. -/
abbrev rRow (h : Fin 2) : Rect S1024x1024 := Rect.unit (s := S1024x1024) ![512 * h.val, 0] S512x1024.size (inb_row h)
abbrev rW1 (k : Fin 8) : Rect S1024x4096 := Rect.unit (s := S1024x4096) ![0, 512 * k.val] S1024x512.size (inb_w1 k)
abbrev rW2 (k : Fin 8) : Rect S4096x1024 := Rect.unit (s := S4096x1024) ![512 * k.val, 0] S512x1024.size (inb_w2 k)
abbrev rV1 (j : Fin 4) : Rect S1024x4096 := Rect.unit (s := S1024x4096) ![0, 1024 * j.val] S1024x1024.size (inb_v1 j)
abbrev rV2 (j : Fin 4) : Rect S4096x1024 := Rect.unit (s := S4096x1024) ![1024 * j.val, 0] S1024x1024.size (inb_v2 j)
abbrev rS1 (b : Fin 2) : Rect S2x1024x512 := Rect.unit (s := S2x1024x512) ![b.val, 0, 0] S1x1024x512.size (inb_s1 b)
abbrev rS2 (b : Fin 2) : Rect S2x512x1024 := Rect.unit (s := S2x512x1024) ![b.val, 0, 0] S1x512x1024.size (inb_s2 b)
abbrev rSlot (t : Fin 3) : Rect S3x512x1024 := Rect.unit (s := S3x512x1024) ![t.val, 0, 0] S1x512x1024.size (inb_slot t)

theorem words_row (h : Fin 2) : (rRow h).WholeWords (EltTy.packing .bf16) := by
  fin_cases h
  · exact wordsbf16_S1024x1024_S512x1024_0_0
  · exact wordsbf16_S1024x1024_S512x1024_512_0
theorem words_slot (t : Fin 3) : (rSlot t).WholeWords (EltTy.packing .bf16) := by
  fin_cases t
  · exact wordsbf16_S3x512x1024_S1x512x1024_0_0_0
  · exact wordsbf16_S3x512x1024_S1x512x1024_1_0_0
  · exact wordsbf16_S3x512x1024_S1x512x1024_2_0_0
theorem packed_slot (t : Fin 3) : (rSlot t).PackedRows (EltTy.packing .bf16) := by
  fin_cases t
  · exact packedbf16_S3x512x1024_S1x512x1024_0_0_0
  · exact packedbf16_S3x512x1024_S1x512x1024_1_0_0
  · exact packedbf16_S3x512x1024_S1x512x1024_2_0_0
theorem packed_w1 (k : Fin 8) : (rW1 k).PackedRows (EltTy.packing .bf16) := by
  fin_cases k
  · exact packedbf16_S1024x4096_S1024x512_0_0
  · exact packedbf16_S1024x4096_S1024x512_0_512
  · exact packedbf16_S1024x4096_S1024x512_0_1024
  · exact packedbf16_S1024x4096_S1024x512_0_1536
  · exact packedbf16_S1024x4096_S1024x512_0_2048
  · exact packedbf16_S1024x4096_S1024x512_0_2560
  · exact packedbf16_S1024x4096_S1024x512_0_3072
  · exact packedbf16_S1024x4096_S1024x512_0_3584
theorem packed_w2 (k : Fin 8) : (rW2 k).PackedRows (EltTy.packing .bf16) := by
  fin_cases k
  · exact packedbf16_S4096x1024_S512x1024_0_0
  · exact packedbf16_S4096x1024_S512x1024_512_0
  · exact packedbf16_S4096x1024_S512x1024_1024_0
  · exact packedbf16_S4096x1024_S512x1024_1536_0
  · exact packedbf16_S4096x1024_S512x1024_2048_0
  · exact packedbf16_S4096x1024_S512x1024_2560_0
  · exact packedbf16_S4096x1024_S512x1024_3072_0
  · exact packedbf16_S4096x1024_S512x1024_3584_0

/-! ## Tiles and slots -/

abbrev xHalf (h : Fin 2) : Memref sig .tc .vmem S512x1024 .bf16 := xM.slice (rRow h) (fun _ => rfl)
abbrev oHalf (h : Fin 2) : Memref sig .tc .vmem S512x1024 .f32 := oM.slice (rRow h) (fun _ => rfl)
abbrev w1T (k : Fin 8) : Memref sig .tc .hbm S1024x512 .f32 := w1M.slice (rW1 k) (fun _ => rfl)
abbrev w2T (k : Fin 8) : Memref sig .tc .hbm S512x1024 .f32 := w2M.slice (rW2 k) (fun _ => rfl)
abbrev b1T (k : Fin 8) : Memref sig .tc .vmem S1024x512 .bf16 := b1M.slice (rW1 k) (fun _ => rfl)
abbrev b2T (k : Fin 8) : Memref sig .tc .vmem S512x1024 .bf16 := b2M.slice (rW2 k) (fun _ => rfl)
abbrev s1T (b : Fin 2) : Memref sig .tc .vmem S1024x512 .f32 :=
  (s1M.slice (rS1 b) (fun _ => rfl)).squeeze S1024x512 squeezes_S1x1024x512_S1024x512
abbrev s2T (b : Fin 2) : Memref sig .tc .vmem S512x1024 .f32 :=
  (s2M.slice (rS2 b) (fun _ => rfl)).squeeze S512x1024 squeezes_S1x512x1024_S512x1024
/-- One slot of a buffer of three, as a matrix. -/
abbrev slot (m : Memref sig .tc .vmem S3x512x1024 .bf16) (t : Fin 3) : Memref sig .tc .vmem S512x1024 .bf16 :=
  (m.slice (rSlot t) (fun _ => rfl)).squeeze S512x1024 squeezes_S1x512x1024_S512x1024

abbrev sem3 (a : DmaSems sig S3) (t : Fin 3) : DmaSem sig :=
  ((a.slice (Rect.unit (s := S3) ![t.val] S1.size (inb_sem3 t))).squeeze S_ squeezes_S1_S_).sem
abbrev wsem (n : Fin 4) : DmaSem sig :=
  ((cc0_scratch10.slice (Rect.unit (s := S4) ![n.val] S1.size (inb_sem4 n))).squeeze S_ squeezes_S1_S_).sem
abbrev barS : Idealize.ShloMosaic.Sem sig := (SemArray.scalar (sig.barrier 0 rfl) : Sems sig S_).sem
abbrev exS : Idealize.ShloMosaic.Sem sig := cc0_scoped0.sem

/-! ## The four channels: three messages each -/

/-- A channel is a kind of message (gather a block, or reduce a partial sum) and a half of the rows; each carries three messages, one per step. -/
inductive Ch where | agA | agB | rsA | rsB
  deriving DecidableEq

instance : Fintype Ch := ⟨{.agA, .agB, .rsA, .rsB}, by intro x; cases x <;> decide⟩

namespace Ch

/-- The buffer its messages land in. -/
def land : Ch → Memref sig .tc .vmem S3x512x1024 .bf16
  | agA => Memref.whole cc0_scratch4 | agB => Memref.whole cc0_scratch5 | rsA => Memref.whole cc0_scratch7 | rsB => Memref.whole cc0_scratch9

/-- Where message `t` is sent from: a gather sends its own half first, then what it received; a reduction sends the partial sums of its step. -/
def src : Ch → Fin 3 → Memref sig .tc .vmem S512x1024 .bf16
  | agA, 0 => xHalf 0 | agA, 1 => slot (Memref.whole cc0_scratch4) 0 | agA, 2 => slot (Memref.whole cc0_scratch4) 1
  | agB, 0 => xHalf 1 | agB, 1 => slot (Memref.whole cc0_scratch5) 0 | agB, 2 => slot (Memref.whole cc0_scratch5) 1
  | rsA, t => slot (Memref.whole cc0_scratch6) t
  | rsB, t => slot (Memref.whole cc0_scratch8) t

def dst (h : Ch) (t : Fin 3) : Memref sig .tc .vmem S512x1024 .bf16 := slot h.land t

def sendS : Ch → Fin 3 → DmaSem sig
  | agA, t => sem3 cc0_scratch11 t | agB, t => sem3 cc0_scratch13 t | rsA, t => sem3 cc0_scratch15 t | rsB, t => sem3 cc0_scratch17 t
def recvS : Ch → Fin 3 → DmaSem sig
  | agA, t => sem3 cc0_scratch12 t | agB, t => sem3 cc0_scratch14 t | rsA, t => sem3 cc0_scratch16 t | rsB, t => sem3 cc0_scratch18 t

theorem land_words (h : Ch) (t : Fin 3) : (slot h.land t).view.WordExact := by
  cases h <;> exact ((Memref.isWhole_whole _).wordExact_slice rfl _ (words_slot t)).reshape _ _
theorem src_words (h : Ch) (t : Fin 3) : (h.src t).view.WordExact := by
  cases h
  · fin_cases t
    · exact (Memref.isWhole_whole _).wordExact_slice rfl _ (words_row 0)
    · exact ((Memref.isWhole_whole _).wordExact_slice rfl _ (words_slot 0)).reshape _ _
    · exact ((Memref.isWhole_whole _).wordExact_slice rfl _ (words_slot 1)).reshape _ _
  · fin_cases t
    · exact (Memref.isWhole_whole _).wordExact_slice rfl _ (words_row 1)
    · exact ((Memref.isWhole_whole _).wordExact_slice rfl _ (words_slot 0)).reshape _ _
    · exact ((Memref.isWhole_whole _).wordExact_slice rfl _ (words_slot 1)).reshape _ _
  · exact ((Memref.isWhole_whole _).wordExact_slice rfl _ (words_slot t)).reshape _ _
  · exact ((Memref.isWhole_whole _).wordExact_slice rfl _ (words_slot t)).reshape _ _

end Ch

/-- The program of a device, in the effects of the kernel. -/
abbrev P (F : FTy → Type) (α : Type) := Prog (TpuEff nD τ sig (Elt F) Λ₀ .tc) α

/-- Send message `t` of the channel to device `d`. -/
def send (h : Ch) (t : Fin 3) (d : Dev nD) : P F PUnit :=
  Prog.lift (.enqueueDma (h.src t) (.remote (Dev.tc d) (slot h.land t) (.dma (h.sendS t))) (.dma (h.recvS t))
    (h.src_words t) (h.land_words t) ⟨⟨rfl, Or.inl rfl⟩, trivial⟩)

/-- Wait for message `t` of the channel to land here. -/
def recv (h : Ch) (t : Fin 3) : P F PUnit :=
  Prog.lift (.waitDma2 (h.recvS t) (h.src t) (slot h.land t) (h.src_words t) (h.land_words t))

/-- Wait for message `t` of the channel to have left. -/
def drain (h : Ch) (t : Fin 3) : P F PUnit :=
  Prog.lift (.waitDma2 (h.sendS t) (slot h.land t) (h.src t) (h.land_words t) (h.src_words t))

/-! ## Streaming the weights -/

abbrev par (k : Fin 8) : Fin 2 := ⟨k.val % 2, Nat.mod_lt _ (by decide)⟩
abbrev q1 (k : Fin 8) : Fin 4 := ⟨k.val % 2, Nat.lt_of_lt_of_le (Nat.mod_lt _ (by decide)) (by decide)⟩
abbrev q2 (k : Fin 8) : Fin 4 := ⟨2 + k.val % 2, Nat.add_lt_add_left (Nat.mod_lt _ (by decide)) 2⟩

def start1 (k : Fin 8) : P F PUnit :=
  Prog.lift (.enqueueDma (w1T k) (.here (s1T (par k))) (.dma (wsem (q1 k))) (View.wordExact_bits rfl) ((View.wordExact_bits rfl).reshape _ _) ⟨Or.inl rfl, trivial⟩)
def start2 (k : Fin 8) : P F PUnit :=
  Prog.lift (.enqueueDma (w2T k) (.here (s2T (par k))) (.dma (wsem (q2 k))) (View.wordExact_bits rfl) ((View.wordExact_bits rfl).reshape _ _) ⟨Or.inl rfl, trivial⟩)
def wait1 (k : Fin 8) : P F PUnit :=
  Prog.lift (.waitDma2 (wsem (q1 k)) (w1T k) (s1T (par k)) (View.wordExact_bits rfl) ((View.wordExact_bits rfl).reshape _ _))
def wait2 (k : Fin 8) : P F PUnit :=
  Prog.lift (.waitDma2 (wsem (q2 k)) (w2T k) (s2T (par k)) (View.wordExact_bits rfl) ((View.wordExact_bits rfl).reshape _ _))

/-- The narrowed tile of the first weight matrix, from its staging slot. -/
def narrow1 (v : Vec F S1x1024x512 .f32) : FVec F S1024x512 .bf16 :=
  shapeCast S1024x512 (truncf .bf16 (shapeCast S1024x512 v shapeCasts_S1x1024x512_S1024x512 : FVec F S1024x512 .f32) bitsLt_bf16_f32 : FVec F S1024x512 .bf16) shapeCasts_S1024x512_S1024x512
/-- The narrowed tile of the second weight matrix, from its staging slot. -/
def narrow2 (v : Vec F S1x512x1024 .f32) : FVec F S512x1024 .bf16 :=
  shapeCast S512x1024 (truncf .bf16 (shapeCast S512x1024 v shapeCasts_S1x512x1024_S512x1024 : FVec F S512x1024 .f32) bitsLt_bf16_f32 : FVec F S512x1024 .bf16) shapeCasts_S512x1024_S512x1024

def loadB1 (k : Fin 8) : P F (Vec F S1024x512 .bf16) :=
  Prog.lift (.load b1M (rW1 k).toLoadRect (View.loadsAt_vmem h_S1024x512))
def loadB2 (k : Fin 8) : P F (Vec F S512x1024 .bf16) :=
  Prog.lift (.load b2M (rW2 k).toLoadRect (View.loadsAt_vmem h_S512x1024))

/-- The tile that has arrived, narrowed and put in its place. -/
def place (k : Fin 8) : P F PUnit := do
  wait1 k
  let v ← Prog.lift (.load s1M (rS1 (par k)).toLoadRect (View.loadsAt_vmem h_S1x1024x512))
  let _ ← loadB1 k
  Prog.lift (.store b1M (rW1 k) (narrow1 v) Finset.univ (View.stores_vmem h_S1024x512 ((Memref.isWhole_whole _).storeExact_slice rfl _ (packed_w1 k)) (fun _ => rfl)) (.inl rfl))
  wait2 k
  let u ← Prog.lift (.load s2M (rS2 (par k)).toLoadRect (View.loadsAt_vmem h_S1x512x1024))
  let _ ← loadB2 k
  Prog.lift (.store b2M (rW2 k) (narrow2 u) Finset.univ (View.stores_vmem h_S512x1024 ((Memref.isWhole_whole _).storeExact_slice rfl _ (packed_w2 k)) (fun _ => rfl)) (.inl rfl))

/-- The contribution of 512 hidden features to the product. -/
def part512 (x : FVec F S512x1024 .bf16) (a : Vec F S1024x512 .bf16) (b : Vec F S512x1024 .bf16) : FVec F S512x1024 .f32 :=
  let h : FVec F S512x512 .bf16 := truncf .bf16 (matmul dot_S512x1024_S1024x512_S512x512_1_0_0_1_n_n none x a (constant S512x512 .f32 0x00000000#32) : FVec F S512x512 .f32) bitsLt_bf16_f32
  matmul dot_S512x512_S512x1024_S512x1024_1_0_0_1_n_n none (mulf h (logistic h)) b (constant S512x1024 .f32 0x00000000#32)

/-- The contribution of 1024 hidden features to the product. -/
def part1024 (x : FVec F S512x1024 .bf16) (a b : Vec F S1024x1024 .bf16) : FVec F S512x1024 .f32 :=
  let h : FVec F S512x1024 .bf16 := truncf .bf16 (matmul dot_S512x1024_S1024x1024_S512x1024_1_0_0_1_n_n none x a (constant S512x1024 .f32 0x00000000#32) : FVec F S512x1024 .f32) bitsLt_bf16_f32
  matmul dot_S512x1024_S1024x1024_S512x1024_1_0_0_1_n_n none (mulf h (logistic h)) b (constant S512x1024 .f32 0x00000000#32)

/-- One middle step of the stream: place tile `k`, start tile `k + 2`, add tile `k`'s contribution. -/
def stream (k k2 : Fin 8) (f : FVec F S512x1024 .f32 → FVec F S512x1024 .f32) (x : FVec F S512x1024 .bf16) : P F (FVec F S512x1024 .f32) := do
  place k
  start1 k2
  start2 k2
  let a ← loadB1 k
  let b ← loadB2 k
  pure (f (part512 x a b))

/-- One of the last two steps: nothing left to start. -/
def streamLast (k : Fin 8) (acc : FVec F S512x1024 .f32) (x : FVec F S512x1024 .bf16) : P F (FVec F S512x1024 .f32) := do
  place k
  let a ← loadB1 k
  let b ← loadB2 k
  pure (addf acc (part512 x a b))

def loadO (h : Fin 2) : P F (Vec F S512x1024 .f32) :=
  Prog.lift (.load oM (rRow h).toLoadRect (View.loadsAt_vmem h_S512x1024))
def storeO (h : Fin 2) (v : FVec F S512x1024 .f32) : P F PUnit :=
  Prog.lift (.store oM (rRow h) v Finset.univ (View.stores_vmem_bits_univ h_S512x1024 rfl) (.inl rfl))
def loadX (h : Fin 2) : P F (Vec F S512x1024 .bf16) :=
  Prog.lift (.load xM (rRow h).toLoadRect (View.loadsAt_vmem h_S512x1024))

def flat (v : Vec F S512x1024 .bf16) : FVec F S512x1024 .bf16 := shapeCast S512x1024 v shapeCasts_S512x1024_S512x1024
def flat3 (v : Vec F S1x512x1024 .bf16) : FVec F S512x1024 .bf16 := shapeCast S512x1024 v shapeCasts_S1x512x1024_S512x1024

/-! ## The ring steps -/

def loadV1 (j : Fin 4) : P F (Vec F S1024x1024 .bf16) :=
  Prog.lift (.load b1M (rV1 j).toLoadRect (View.loadsAt_vmem h_S1024x1024))
def loadV2 (j : Fin 4) : P F (Vec F S1024x1024 .bf16) :=
  Prog.lift (.load b2M (rV2 j).toLoadRect (View.loadsAt_vmem h_S1024x1024))

/-- The product of a half block with the device's share of both weight matrices, 1024 hidden features at a time. -/
def product (x : FVec F S512x1024 .bf16) : P F (FVec F S512x1024 .f32) := do
  let a0 ← loadV1 0
  let b0 ← loadV2 0
  let a1 ← loadV1 1
  let b1 ← loadV2 1
  let a2 ← loadV1 2
  let b2 ← loadV2 2
  let a3 ← loadV1 3
  let b3 ← loadV2 3
  pure (addf (addf (addf (part1024 x a0 b0) (part1024 x a1 b1)) (part1024 x a2 b2)) (part1024 x a3 b3))

def loadSlot (m : Memref sig .tc .vmem S3x512x1024 .bf16) (t : Fin 3) : P F (Vec F S1x512x1024 .bf16) :=
  Prog.lift (.load m (rSlot t).toLoadRect (View.loadsAt_vmem h_S1x512x1024))

/-- The buffer the reduction of a half is sent from. -/
def sums (h : Fin 2) : Memref sig .tc .vmem S3x512x1024 .bf16 := match h with | 0 => Memref.whole cc0_scratch6 | 1 => Memref.whole cc0_scratch8
theorem sums_packed (h : Fin 2) (t : Fin 3) : ((sums h).view.slice (rSlot t)).StoreExact Finset.univ := by
  fin_cases h <;> exact (Memref.isWhole_whole _).storeExact_slice rfl _ (packed_slot t)

def wide (v : FVec F S512x1024 .bf16) : FVec F S1x512x1024 .bf16 := shapeCast S1x512x1024 v shapeCasts_S512x1024_S1x512x1024

/-- Put a partial sum, rounded, in its send slot. -/
def putSum (h : Fin 2) (t : Fin 3) (v : FVec F S512x1024 .f32) : P F PUnit := do
  let _ ← loadSlot (sums h) t
  Prog.lift (.store (sums h) (rSlot t) (wide (truncf .bf16 v bitsLt_bf16_f32)) Finset.univ (View.stores_vmem h_S1x512x1024 (sums_packed h t) (fun _ => rfl)) (.inl rfl))

def ag (h : Fin 2) : Ch := match h with | 0 => .agA | 1 => .agB
def rs (h : Fin 2) : Ch := match h with | 0 => .rsA | 1 => .rsB

/-- The first partial sum of a half: from the first block received, sent on to device `d`. -/
def reduce0 (h : Fin 2) (d : Dev nD) : P F PUnit := do
  let v ← loadSlot (ag h).land 0
  let s ← product (flat3 v)
  putSum h 0 s
  send (rs h) 0 d

/-- A later partial sum of a half: the block received at step `t`, and the partial sum received with it (message `t - 1`), sent on to device `d`. -/
def reduce (h : Fin 2) (t' t : Fin 3) (d : Dev nD) : P F PUnit := do
  let v ← loadSlot (ag h).land t
  let s ← product (flat3 v)
  recv (rs h) t'
  let w ← loadSlot (rs h).land t'
  putSum h t (addf s (extf .f32 (flat3 w) bitsLt_bf16_f32))
  send (rs h) t d

/-- The last partial sum received is added to a half of the result. -/
def finish (h : Fin 2) : P F PUnit := do
  recv (rs h) 2
  let o ← loadO h
  let w ← loadSlot (rs h).land 2
  let _ ← loadO h
  storeO h (addf (shapeCast S512x1024 o shapeCasts_S512x1024_S512x1024 : FVec F S512x1024 .f32) (extf .f32 (flat3 w) bitsLt_bf16_f32))

/-! ## The whole body -/

/-- The handshake at entry. -/
def enter (dl dr : Dev nD) : P F PUnit := do
  semSignalWord dl barS 1#32
  semSignalWord dr barS 1#32
  semWaitWord barS 2#32

/-- The handshake at exit. -/
def leave (dl dr : Dev nD) : P F PUnit := do
  semSignalWord dl exS 1#32
  semSignalWord dr exS 1#32
  semWaitWord exS 2#32

/-- The weights streamed in while the first half of the own block goes through them. -/
def streamAll : P F PUnit := do
  let x0 ← loadX 0
  let x : FVec F S512x1024 .bf16 := flat x0
  start1 0
  start2 0
  start1 1
  start2 1
  let c0 ← stream 0 2 id x
  let c1 ← stream 1 3 (addf c0) x
  let c2 ← stream 2 4 (addf c1) x
  let c3 ← stream 3 5 (addf c2) x
  let c4 ← stream 4 6 (addf c3) x
  let c5 ← stream 5 7 (addf c4) x
  let c6 ← streamLast 6 c5 x
  let c7 ← streamLast 7 c6 x
  let _ ← loadO 0
  storeO 0 c7

/-- The second half of the own block. -/
def ownLower : P F PUnit := do
  let x1 ← loadX 1
  let s ← product (flat x1)
  let _ ← loadO 1
  storeO 1 s

def drainAll : P F PUnit := do
  drain .agA 0
  drain .agB 0
  drain .agA 1
  drain .agB 1
  drain .rsA 0
  drain .rsB 0
  drain .agA 2
  drain .agB 2
  drain .rsA 1
  drain .rsB 1
  drain .rsA 2
  drain .rsB 2

/-- What a device runs, the devices it talks to given. -/
def bodyOn (g : Fin 16 → Dev nD) : P F PUnit := do
  enter (g 0) (g 1)
  send .agA 0 (g 2)
  send .agB 0 (g 3)
  streamAll
  recv .agA 0
  recv .agB 0
  send .agA 1 (g 4)
  send .agB 1 (g 5)
  reduce0 0 (g 6)
  reduce0 1 (g 7)
  recv .agA 1
  recv .agB 1
  send .agA 2 (g 8)
  send .agB 2 (g 9)
  reduce 0 0 1 (g 10)
  reduce 1 0 1 (g 11)
  recv .agA 2
  recv .agB 2
  reduce 0 1 2 (g 12)
  reduce 1 1 2 (g 13)
  ownLower
  finish 0
  finish 1
  drainAll
  leave (g 14) (g 15)

/-- The devices the printed body names. -/
def named (d : Dev nD) : Fin 16 → Dev nD := fun i => match i.val with
  | 0 => ⟨k0_dev1 d, k0_dev1_lt d⟩ | 1 => ⟨k0_dev2 d, k0_dev2_lt d⟩ | 2 => ⟨k0_dev3 d, k0_dev3_lt d⟩ | 3 => ⟨k0_dev4 d, k0_dev4_lt d⟩
  | 4 => ⟨k0_dev5 d, k0_dev5_lt d⟩ | 5 => ⟨k0_dev6 d, k0_dev6_lt d⟩ | 6 => ⟨k0_dev7 d, k0_dev7_lt d⟩ | 7 => ⟨k0_dev8 d, k0_dev8_lt d⟩
  | 8 => ⟨k0_dev9 d, k0_dev9_lt d⟩ | 9 => ⟨k0_dev10 d, k0_dev10_lt d⟩ | 10 => ⟨k0_dev11 d, k0_dev11_lt d⟩ | 11 => ⟨k0_dev12 d, k0_dev12_lt d⟩
  | 12 => ⟨k0_dev13 d, k0_dev13_lt d⟩ | 13 => ⟨k0_dev14 d, k0_dev14_lt d⟩ | 14 => ⟨k0_dev15 d, k0_dev15_lt d⟩ | _ => ⟨k0_dev16 d, k0_dev16_lt d⟩

def body : P F PUnit := do
  let d ← Prog.lift .deviceId
  bodyOn (named d)

set_option maxRecDepth 65536 in
set_option maxHeartbeats 2000000 in
theorem body_eq (t : Fin cfg0.N) : bodyAt0 (F := F) t = body := rfl

end Cert.KernelIdeal.Fused

end
-- ==== Proof.Steps.lean ====
/-
  Rules for the memory operations of a program, stated over what a core owns of a memref at given values
  (`owns`, Lib/Memref.lean): loads and stores through a rectangle, through one slot of a stacked buffer seen as a
  matrix, local copies and their waits. Nothing here mentions a particular kernel.
-/
module

public import Idealize.ShloMosaic.Lib.Transfers
public import Idealize.ShloMosaic.Lib.Rounds
public import Idealize.ShloMosaic.Lib.Memref
public import Idealize.ShloMosaic.Lib.ViewIndex
public import Idealize.ShloMosaic.Lib.Writes
public import Idealize.ShloMosaic.Instance
public import Idealize.ShloMosaic.PureOps
public import Idealize.ShloMosaic.Lib.Pipeline.Kit

@[expose] public section

noncomputable section

namespace Idealize.ShloMosaic.Steps

open Idealize.SL Idealize.SL.RA Idealize.SL.BI
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type} [Preorder Lvl] {Λ : Labels} {defs : Defs nD τ sig Val Λ} (𝒱 : Variants) (c : Thread nD τ) (bd : Option 𝒱.V)

local notation "𝕄" => MT nD τ sig Ix Val Name U Lvl

variable {s : Shape} {e : EltTy}

theorem set_reshape {κ : Kind} {sp : Space} (v : View sig κ sp s e) (s' : Shape) (h : s'.numel = s.numel) : (v.reshape s' h).set = v.set := by
  ext i
  simp only [View.set, Finset.mem_map, Finset.mem_univ, true_and]
  constructor
  · rintro ⟨x, rfl⟩; exact ⟨Shape.reshapeEquiv h x, rfl⟩
  · rintro ⟨x, rfl⟩; exact ⟨(Shape.reshapeEquiv h).symm x, by
      show v.emb (Shape.reshapeEquiv h ((Shape.reshapeEquiv h).symm x)) = v.emb x
      rw [Equiv.apply_symm_apply]⟩

theorem shapeCast_same {α : Type} (X : s.Idx → α) (h : s.ShapeCasts s) : shapeCast s X h = X := by
  funext j
  show X (Shape.reshapeEquiv _ j) = X j
  rw [Shape.reshapeEquiv_self]

theorem shapeCast_back {α : Type} {s' : Shape} (X : s.Idx → α) (h : s.ShapeCasts s') (h' : s'.ShapeCasts s) :
    shapeCast s (shapeCast s' X h) h' = X := by
  funext j
  show X (Shape.reshapeEquiv _ (Shape.reshapeEquiv _ j)) = X j
  congr 1
  exact (Shape.reshapeEquiv_reshapeEquiv _ _ _).trans (Shape.reshapeEquiv_self _ _)

section Owns

/-- Some contents are owned in full. -/
def ownsAny (m : Memref sig c.2.kind .vmem s e) : sProp 𝕄 := iprop(∃ X, owns c m fullShare X)

theorem ownsAny_intro (m : Memref sig c.2.kind .vmem s e) (X : s.Idx → Val e) : (owns c m fullShare X : sProp 𝕄) ⊢ ownsAny c m := by
  unfold ownsAny
  iintro H
  iexists X; iexact H

/-- A load through a rectangle, the rectangle owned. -/
theorem load_slice {cs : CoreSpace} {m : Memref sig c.2.kind cs s e} {r : Rect s} {hr : ∀ a, r.stride a = 1} {hl : m.view.LoadsAt r.toLoadRect}
    {q : PosShare TreeShare} {X : r.shape.Idx → Val e} {Q : (r.shape.Idx → Val e) → sProp 𝕄} :
    iprop(owns c (m.slice r hr) q X ∗ (owns c (m.slice r hr) q X -∗ Q X))
      ⊢ wp frame (wpE defs 𝒱 c bd) Set.univ (Prog.lift (.load m r.toLoadRect hl)) Q := by
  iintro ⟨H, HQ⟩
  ihave H' := (show owns c (m.slice r hr) q X ⊢ iprop(∃ f, ⌜(m.view.slice r).read Val f = X⌝ ∗ ((m.access r).loc c ↦[(m.access r).set]{q} f)) from .rfl) $$ H
  icases H' with ⟨%f, %hf, H⟩
  iapply (wp_load_rect 𝒱 c bd Set.univ (m := m) (r := r) (hl := hl) subset_rfl) $$ H
  iintro H
  rw [wp_ret]; imodintro
  have hX : m.view.readAt Val r.toLoadRect f = X := hf
  rw [show (m.access r).read Val f = X from hf]
  iapply HQ
  iapply (show iprop(∃ f, ⌜(m.view.slice r).read Val f = X⌝ ∗ ((m.access r).loc c ↦[(m.access r).set]{q} f)) ⊢ owns c (m.slice r hr) q X from .rfl)
  iexists f
  isplitr; · ipureintro; exact hf
  iexact H

/-- A load through a rectangle, the whole memref owned. -/
theorem load_part {cs : CoreSpace} {m : Memref sig c.2.kind cs s e} {r : Rect s} {hl : m.view.LoadsAt r.toLoadRect}
    {q : PosShare TreeShare} {X : s.Idx → Val e} {Q : (r.shape.Idx → Val e) → sProp 𝕄} :
    iprop(owns c m q X ∗ (owns c m q X -∗ Q (fun j => X (r.emb j))))
      ⊢ wp frame (wpE defs 𝒱 c bd) Set.univ (Prog.lift (.load m r.toLoadRect hl)) Q := by
  iintro ⟨H, HQ⟩
  ihave H' := (show owns c m q X ⊢ iprop(∃ f, ⌜m.view.read Val f = X⌝ ∗ ((m.access r).loc c ↦[m.view.set]{q} f)) from .rfl) $$ H
  icases H' with ⟨%f, %hf, H⟩
  iapply (wp_load_rect 𝒱 c bd Set.univ (m := m) (r := r) (hl := hl) (View.set_slice_subset m.view r)) $$ H
  iintro H
  rw [wp_ret]; imodintro
  rw [show (m.access r).read Val f = (fun j => X (r.emb j)) from by subst hf; rfl]
  iapply HQ
  iapply (show iprop(∃ f, ⌜m.view.read Val f = X⌝ ∗ ((m.access r).loc c ↦[m.view.set]{q} f)) ⊢ owns c m q X from .rfl)
  iexists f
  isplitr; · ipureintro; exact hf
  iexact H

/-- A load of one slot of a stacked buffer, the slot owned as a matrix. -/
theorem load_slot {cs : CoreSpace} {m : Memref sig c.2.kind cs s e} {r : Rect s} {hr : ∀ a, r.stride a = 1} {hl : m.view.LoadsAt r.toLoadRect}
    {s' : Shape} {h : r.shape.Squeezes s'} (h' : r.shape.ShapeCasts s')
    {q : PosShare TreeShare} {X : s'.Idx → Val e} {Q : (r.shape.Idx → Val e) → sProp 𝕄} :
    iprop(owns c ((m.slice r hr).squeeze s' h) q X ∗ (∀ Y, ⌜shapeCast s' Y h' = X⌝ -∗ owns c ((m.slice r hr).squeeze s' h) q X -∗ Q Y))
      ⊢ wp frame (wpE defs 𝒱 c bd) Set.univ (Prog.lift (.load m r.toLoadRect hl)) Q := by
  iintro ⟨H, HQ⟩
  ihave H' := (show owns c ((m.slice r hr).squeeze s' h) q X ⊢ iprop(∃ f, ⌜((m.view.slice r).reshape s' h.numel_eq).read Val f = X⌝ ∗ ((m.access r).loc c ↦[((m.view.slice r).reshape s' h.numel_eq).set]{q} f)) from .rfl) $$ H
  icases H' with ⟨%f, %hf, H⟩
  rw [set_reshape]
  iapply (wp_load_rect 𝒱 c bd Set.univ (m := m) (r := r) (hl := hl) subset_rfl) $$ H
  iintro H
  rw [wp_ret]; imodintro
  ihave HQ := HQ $$ %((m.access r).read Val f) %hf
  iapply HQ
  iapply (show iprop(∃ f, ⌜((m.view.slice r).reshape s' h.numel_eq).read Val f = X⌝ ∗ ((m.access r).loc c ↦[((m.view.slice r).reshape s' h.numel_eq).set]{q} f)) ⊢ owns c ((m.slice r hr).squeeze s' h) q X from .rfl)
  iexists f
  isplitr; · ipureintro; exact hf
  rw [set_reshape]
  iexact H

/-- A store through a rectangle, the rectangle owned. -/
theorem store_slice {cs : CoreSpace} {m : Memref sig c.2.kind cs s e} {r : Rect s} {hr : ∀ a, r.stride a = 1}
    {w : r.shape.Idx → Val e} {hx : (m.access r).Stores Finset.univ} {hm : (Finset.univ : Finset r.shape.Idx) = Finset.univ ∨ ∀ a, r.stride a = 1}
    {X : r.shape.Idx → Val e} {Q : PUnit → sProp 𝕄} :
    iprop(owns c (m.slice r hr) fullShare X ∗ (owns c (m.slice r hr) fullShare w -∗ Q ⟨⟩))
      ⊢ wp frame (wpE defs 𝒱 c bd) Set.univ (Prog.lift (.store m r w Finset.univ hx hm)) Q := by
  iintro ⟨H, HQ⟩
  ihave H' := (show owns c (m.slice r hr) fullShare X ⊢ iprop(∃ f, ⌜(m.view.slice r).read Val f = X⌝ ∗ ((m.access r).loc c ↦[(m.access r).set]{fullShare} f)) from .rfl) $$ H
  icases H' with ⟨%f, %hf, H⟩
  iapply (wp_store 𝒱 c bd Set.univ (m := m) (r := r) (w := w) (hx := hx) (hm := hm) (S := (m.access r).set) (f := f) (by rw [View.setOn_univ])) $$ H
  iintro H
  rw [wp_ret]; imodintro
  iapply HQ
  iapply (show iprop(∃ f, ⌜(m.view.slice r).read Val f = w⌝ ∗ ((m.access r).loc c ↦[(m.access r).set]{fullShare} f)) ⊢ owns c (m.slice r hr) fullShare w from .rfl)
  iexists _
  isplitr
  · ipureintro; exact View.read_write_univ (v := m.view.slice r) f w
  iexact H

/-- A store to one slot of a stacked buffer, the slot owned as a matrix. -/
theorem store_slot {cs : CoreSpace} {m : Memref sig c.2.kind cs s e} {r : Rect s} {hr : ∀ a, r.stride a = 1}
    {w : r.shape.Idx → Val e} {hx : (m.access r).Stores Finset.univ} {hm : (Finset.univ : Finset r.shape.Idx) = Finset.univ ∨ ∀ a, r.stride a = 1}
    {s' : Shape} {h : r.shape.Squeezes s'} (h' : r.shape.ShapeCasts s')
    {X : s'.Idx → Val e} {Q : PUnit → sProp 𝕄} :
    iprop(owns c ((m.slice r hr).squeeze s' h) fullShare X ∗ (owns c ((m.slice r hr).squeeze s' h) fullShare (shapeCast s' w h') -∗ Q ⟨⟩))
      ⊢ wp frame (wpE defs 𝒱 c bd) Set.univ (Prog.lift (.store m r w Finset.univ hx hm)) Q := by
  iintro ⟨H, HQ⟩
  ihave H' := (show owns c ((m.slice r hr).squeeze s' h) fullShare X ⊢ iprop(∃ f, ⌜((m.view.slice r).reshape s' h.numel_eq).read Val f = X⌝ ∗ ((m.access r).loc c ↦[((m.view.slice r).reshape s' h.numel_eq).set]{fullShare} f)) from .rfl) $$ H
  icases H' with ⟨%f, %hf, H⟩
  rw [set_reshape]
  iapply (wp_store 𝒱 c bd Set.univ (m := m) (r := r) (w := w) (hx := hx) (hm := hm) (S := (m.access r).set) (f := f) (by rw [View.setOn_univ])) $$ H
  iintro H
  rw [wp_ret]; imodintro
  iapply HQ
  iapply (show iprop(∃ f, ⌜((m.view.slice r).reshape s' h.numel_eq).read Val f = shapeCast s' w h'⌝ ∗ ((m.access r).loc c ↦[((m.view.slice r).reshape s' h.numel_eq).set]{fullShare} f)) ⊢ owns c ((m.slice r hr).squeeze s' h) fullShare (shapeCast s' w h') from .rfl)
  iexists _
  isplitr
  · ipureintro
    have := View.read_write_univ (v := m.view.slice r) f w
    funext j
    exact congrFun this _
  rw [set_reshape]
  iexact H

variable (EC : UEmb Counters (MT nD τ sig Ix Val Name U Lvl))

/-- A local copy in flight: at its wait the destination holds the source's values, and the source is back. -/
def Fly {sp sp' : Space} (src : Memref sig c.2.kind sp s e) (dst : Memref sig c.2.kind sp' s e) (sm : DmaSem sig) (ι : Ix) (q : PosShare TreeShare) (X : s.Idx → Val e) : sProp 𝕄 :=
  Transfers.Flight EC c (.dma sm) ι dst.view.dmaCredit iprop(owns c dst fullShare X ∗ owns c src q X)

/-- Start a local copy. -/
theorem start_local [Infinite Name] [EC.LandsIn (upEmb : UEmb _ 𝕄)] {sp sp' : Space} {src : Memref sig c.2.kind sp s e} {dst : Memref sig c.2.kind sp' s e} {sm : DmaSem sig}
    (ι : Ix) (h0 : 0 < dst.view.dmaCredit) {hsrc : src.view.WordExact} {hdst : dst.view.WordExact}
    {hsem : (DmaTarget.here (nD := nD) (p := c.2) dst).Typed sp (.dma sm)}
    {q : PosShare TreeShare} {X X' : s.Idx → Val e} {Q : PUnit → sProp 𝕄} :
    iprop(owns c src q X ∗ owns c dst fullShare X' ∗ semVal (c, SemLoc.dma sm) 0 ∗ (Fly c EC src dst sm ι q X -∗ Q ⟨⟩))
      ⊢ wp frame (wpE defs 𝒱 c bd) Set.univ (Prog.lift (.enqueueDma src (.here dst) (.dma sm) hsrc hdst hsem)) Q := by
  iintro ⟨Hs, Hd, Hv, HQ⟩
  ihave Hs := (show owns c src q X ⊢ iprop(∃ f, ⌜src.view.read Val f = X⌝ ∗ (src.view.loc c ↦[src.view.set]{q} f)) from .rfl) $$ Hs
  icases Hs with ⟨%fs, %hfs, Hs⟩
  ihave Hd := (show owns c dst fullShare X' ⊢ iprop(∃ f, ⌜dst.view.read Val f = X'⌝ ∗ (dst.view.loc c ↦[dst.view.set]{fullShare} f)) from .rfl) $$ Hd
  icases Hd with ⟨%fd, %hfd, Hd⟩
  iapply (Transfers.wp_dmaLocal EC 𝒱 c bd ι dst.view.dmaCredit rfl h0 subset_rfl) $$ [Hs Hd Hv]
  · isplitl [Hs]; · iexact Hs
    isplitl [Hd]; · iexact Hd
    iexact Hv
  iintro Hf
  rw [wp_ret]; imodintro
  iapply HQ
  unfold Fly
  iapply (Transfers.Flight_mono EC c ?_) $$ Hf
  iintro ⟨Hd, Hs⟩
  isplitl [Hd]
  · unfold owns
    iexists _
    isplitr
    · ipureintro; exact (View.read_write_univ (v := dst.view) fd _).trans hfs
    iexact Hd
  · unfold owns
    iexists fs
    isplitr; · ipureintro; exact hfs
    iexact Hs

/-- Wait for a local copy, by a core that owes as well. -/
theorem wait_local [EC.LandsIn (upEmb : UEmb _ 𝕄)] {sp sp' : Space} {src : Memref sig c.2.kind sp s e} {dst : Memref sig c.2.kind sp' s e} {sm : DmaSem sig}
    (ι : Ix) {hsrc : src.view.WordExact} {hdst : dst.view.WordExact} {q : PosShare TreeShare} {X : s.Idx → Val e} {O : CellTallies nD τ sig Ix} {W : Waits sig Ix} {Q : PUnit → sProp 𝕄} :
    iprop(Fly c EC src dst sm ι q X ∗ owes c O W ∗ MayWait c (SemLoc.dma sm) ι O
        ∗ (owns c dst fullShare X -∗ owns c src q X -∗ semVal (c, SemLoc.dma sm) 0 -∗ owes c O (insert (SemLoc.dma sm, ι) W) -∗ Q ⟨⟩))
      ⊢ wp frame (wpE defs 𝒱 c bd) Set.univ (Prog.lift (.waitDma2 sm src dst hsrc hdst)) Q := by
  unfold Fly
  iintro ⟨Hf, HO, Hm, HQ⟩
  iapply (Transfers.wp_waitLocalO EC 𝒱 c bd ι (srcw := src) (dstw := dst) rfl) $$ [Hf HO Hm]
  · isplitl [Hf]; · iexact Hf
    isplitl [HO]; · iexact HO
    iexact Hm
  iintro ⟨⟨Hd, Hs⟩, Hv, HO⟩
  rw [wp_ret]; imodintro
  iapply HQ $$ Hd Hs Hv HO

/-! ### Pieces -/

section Pieces

variable {T : Type} [Fintype T] [DecidableEq T]

/-- Values on the rectangles of a family, put together. -/
def glue {α : Type} [Nonempty α] (r : T → Rect s) (Y : (t : T) → (r t).shape.Idx → α) : s.Idx → α := fun i =>
  open Classical in if h : ∃ p : (t : T) × (r t).shape.Idx, (r p.1).emb p.2 = i then Y h.choose.1 h.choose.2 else Classical.arbitrary α

theorem glue_emb {α : Type} [Nonempty α] (r : T → Rect s) (hd : ∀ t t', t ≠ t' → Disjoint (r t).set (r t').set)
    (Y : (t : T) → (r t).shape.Idx → α) (t : T) (j : (r t).shape.Idx) : glue r Y ((r t).emb j) = Y t j := by
  have h : ∃ p : (t : T) × (r t).shape.Idx, (r p.1).emb p.2 = (r t).emb j := ⟨⟨t, j⟩, rfl⟩
  unfold glue
  rw [dif_pos h]
  have hs := h.choose_spec
  generalize h.choose = p at hs
  obtain ⟨t', j'⟩ := p
  have ht : t' = t := by
    by_contra hne
    have h1 : (r t').emb j' ∈ (r t').set := (r t').toLoadRect.idx_mem j'
    have h2 : (r t).emb j ∈ (r t).set := (r t).toLoadRect.idx_mem j
    exact Finset.disjoint_left.mp (hd t' t hne) h1 (hs ▸ h2)
  subst ht
  have hj : j' = j := (r t').emb.injective hs
  subst hj
  rfl

/-- The pieces of a memref, owned at any values, are the memref at those values put together. -/
theorem owns_glue [∀ e, Nonempty (Val e)] {sp : Space} (m : Memref sig c.2.kind sp s e) (q : PosShare TreeShare) (r : T → Rect s)
    (hr : ∀ t a, (r t).stride a = 1) (hd : ∀ t t', t ≠ t' → Disjoint (r t).set (r t').set)
    (hcov : (Finset.univ : Finset T).biUnion (fun t => (r t).set) = Finset.univ) (Y : (t : T) → (r t).shape.Idx → Val e) :
    bigSep Finset.univ (fun t => owns c (m.slice (r t) (hr t)) q (Y t)) ⊢ (owns c m q (glue r Y) : sProp 𝕄) := by
  refine BIBase.Entails.trans (Entails.of_eq ?_) (owns_of_rects c m q r hr hd hcov (glue r Y))
  refine bigSep_congr fun t _ => ?_
  rw [show (fun j => glue r Y ((r t).emb j)) = Y t from funext fun j => glue_emb r hd Y t j]

theorem ownsAny_split (m : Memref sig c.2.kind .vmem s e) (r : T → Rect s)
    (hr : ∀ t a, (r t).stride a = 1) (hd : ∀ t t', t ≠ t' → Disjoint (r t).set (r t').set)
    (hcov : (Finset.univ : Finset T).biUnion (fun t => (r t).set) = Finset.univ) :
    (ownsAny c m : sProp 𝕄) ⊢ bigSep Finset.univ (fun t => ownsAny c (m.slice (r t) (hr t))) := by
  unfold ownsAny
  iintro ⟨%X, H⟩
  ihave H' := (owns_rects c m fullShare r hr hd hcov X).trans (bigSep_mono (Ψ := fun t => iprop(∃ X, owns c (m.slice (r t) (hr t)) fullShare X)) fun t _ =>
    (show owns c (m.slice (r t) (hr t)) fullShare (fun j => X ((r t).emb j)) ⊢ iprop(∃ X, owns c (m.slice (r t) (hr t)) fullShare X) from by
      iintro H; iexists _; iexact H)) $$ H
  iexact H'

theorem ownsAny_join [∀ e, Nonempty (Val e)] (m : Memref sig c.2.kind .vmem s e) (r : T → Rect s)
    (hr : ∀ t a, (r t).stride a = 1) (hd : ∀ t t', t ≠ t' → Disjoint (r t).set (r t').set)
    (hcov : (Finset.univ : Finset T).biUnion (fun t => (r t).set) = Finset.univ) :
    bigSep Finset.univ (fun t => ownsAny c (m.slice (r t) (hr t))) ⊢ (ownsAny c m : sProp 𝕄) := by
  unfold ownsAny
  refine (bigSep_exists_pi Finset.univ _).trans ?_
  iintro ⟨%Y, H⟩
  iexists _
  iapply (owns_glue c m fullShare r hr hd hcov Y); iexact H

/-- One slot of a stacked buffer, seen as a matrix or not. -/
theorem ownsAny_squeeze (m : Memref sig c.2.kind .vmem s e) (r : Rect s) (hr : ∀ a, r.stride a = 1) (s' : Shape) (h : r.shape.Squeezes s') :
    (ownsAny c ((m.slice r hr).squeeze s' h) : sProp 𝕄) ⊣⊢ ownsAny c (m.slice r hr) := by
  unfold ownsAny
  constructor
  · iintro ⟨%X, H⟩
    ihave H' := (show owns c ((m.slice r hr).squeeze s' h) fullShare X ⊢ iprop(∃ f, ⌜((m.view.slice r).reshape s' h.numel_eq).read Val f = X⌝ ∗ ((m.access r).loc c ↦[((m.view.slice r).reshape s' h.numel_eq).set]{fullShare} f)) from .rfl) $$ H
    icases H' with ⟨%f, -, H⟩
    rw [set_reshape]
    iexists _
    iapply (owns_intro c (m.slice r hr) fullShare f); iexact H
  · iintro ⟨%X, H⟩
    ihave H' := (show owns c (m.slice r hr) fullShare X ⊢ iprop(∃ f, ⌜(m.view.slice r).read Val f = X⌝ ∗ ((m.access r).loc c ↦[(m.access r).set]{fullShare} f)) from .rfl) $$ H
    icases H' with ⟨%f, -, H⟩
    iexists _
    iapply (owns_intro c ((m.slice r hr).squeeze s' h) fullShare f)
    iapply (show ((m.access r).loc c ↦[(m.access r).set]{fullShare} f) ⊢ (((m.slice r hr).squeeze s' h).view.loc c ↦[((m.slice r hr).squeeze s' h).view.set]{fullShare} f : sProp 𝕄) from
      Entails.of_eq (by rw [show ((m.slice r hr).squeeze s' h).view.set = (m.access r).set from set_reshape (m.view.slice r) s' h.numel_eq]))
    iexact H

end Pieces

end Owns

end Idealize.ShloMosaic.Steps

end
-- ==== Proof.Ring.lean ====
/-
  The protocol the four devices follow: which cell waits for what, who raises it, by how much, in which order, and what
  each landing hands over. A device `c` has two neighbours, `nb 0 c` on the right and `nb 1 c` on the left. The upper
  half of a block travels to the right and the lower half to the left, both in the gather and in the reduction. Message
  `t` of a channel lands in slot `t` of its buffer, so no slot is written twice.
-/
module

public import proofs.«01_k».proof.Proof.Prog
public import proofs.«01_k».proof.Proof.Steps
public import Idealize.ShloMosaic.Lib.Pipeline.Regions
public import Idealize.ShloMosaic.Lib.Pipeline.Kit
public import Idealize.ShloMosaic.Lib.MemrefSat

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

/-! ## The algebra -/

/-- The protocol's rounds: a duty of a cell is one of two. -/
abbrev UB : Type := URounds (GSem nD τ sig) (Fin 2)
abbrev UU : Type := UR sig nD τ × (UB × Counters)

variable {F : FTy → Type} [FloatOps F]

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb : UEmb UU (MT nD τ sig Unit (Elt F) ℕ UU ℕ)).toEmb
instance ER_lands : (ER : Emb UB 𝕄).LandsIn (upEmb : UEmb _ 𝕄) := by unfold ER; infer_instance
abbrev EC : UEmb Counters (MT nD τ sig Unit (Elt F) ℕ UU ℕ) := countersEmb

/-! ## Neighbours and cells -/

/-- The neighbour on the right (0) or on the left (1). -/
def nb (d : Fin 2) (c : Dev nD) : Dev nD := match d with
  | 0 => ⟨(c.val + 1) % 4, Nat.mod_lt _ (by decide)⟩
  | 1 => ⟨(c.val + 3) % 4, Nat.mod_lt _ (by decide)⟩
/-- The other direction. -/
def opp (d : Fin 2) : Fin 2 := match d with | 0 => 1 | 1 => 0

theorem nb_opp (d : Fin 2) (c : Dev nD) : nb d (nb (opp d) c) = c := by revert d c; decide
theorem opp_nb (d : Fin 2) (c : Dev nD) : nb (opp d) (nb d c) = c := by revert d c; decide
theorem opp_opp (d : Fin 2) : opp (opp d) = d := by revert d; decide

/-- The half of the rows a channel carries: also the direction it goes. -/
def Ch.half : Ch → Fin 2 | .agA => 0 | .agB => 1 | .rsA => 0 | .rsB => 1
/-- Whom a device sends to on a channel, and whom it hears from. -/
abbrev Ch.to (h : Ch) (c : Dev nD) : Dev nD := nb h.half c
abbrev Ch.from (h : Ch) (c : Dev nD) : Dev nD := nb (opp h.half) c

/-- A device's own cells: the handshakes at entry and exit, and one for each message sent and one for each received. -/
inductive CI where | bar | ex | sd (h : Ch) (t : Fin 3) | rv (h : Ch) (t : Fin 3)
  deriving DecidableEq

instance : Fintype CI where
  elems := {.bar, .ex} ∪ (Finset.univ.image fun p : Ch × Fin 3 => CI.sd p.1 p.2) ∪ (Finset.univ.image fun p : Ch × Fin 3 => CI.rv p.1 p.2)
  complete x := by cases x <;> simp

def CI.loc : CI → SemLoc sig
  | bar => .reg barS | ex => .reg exS | sd h t => .dma (h.sendS t) | rv h t => .dma (h.recvS t)

abbrev cell (c : Dev nD) (i : CI) : GSem nD τ sig := ((c : Thread nD τ), i.loc)

/-- The cell at a semaphore, if any. -/
def cellAt (s : SemLoc sig) : Option CI := match s with
  | .reg s => if s.val = 0 then some .bar else some .ex
  | .dma s =>
    if s.val < 6 then none else
    let t : Fin 3 := ⟨s.val % 3, Nat.mod_lt _ (by decide)⟩
    match s.val / 3 - 2 with
    | 0 => some (.sd .agA t) | 1 => some (.rv .agA t) | 2 => some (.sd .agB t) | 3 => some (.rv .agB t)
    | 4 => some (.sd .rsA t) | 5 => some (.rv .rsA t) | 6 => some (.sd .rsB t) | _ => some (.rv .rsB t)

theorem cellAt_loc (i : CI) : cellAt i.loc = some i := by
  cases i with
  | bar => rfl
  | ex => rfl
  | sd h t => revert h t; decide
  | rv h t => revert h t; decide

theorem loc_inj {i j : CI} (h : i.loc = j.loc) : i = j := by
  have := cellAt_loc i; rw [h, cellAt_loc] at this; exact (Option.some.inj this).symm

theorem cellAt_wsem (n : Fin 4) : cellAt (.dma (wsem n)) = none := by revert n; decide

theorem cell_inj : Function.Injective (fun p : Dev nD × CI => cell p.1 p.2) := by
  rintro ⟨c, i⟩ ⟨d, j⟩ h
  have h1 : c = d := congrArg (fun g : GSem nD τ sig => g.1.1) h
  have h2 : i = j := loc_inj (congrArg (fun g : GSem nD τ sig => g.2) h)
  rw [h1, h2]

/-! ## What the devices compute -/

/-- What the devices hold when the kernel starts: the blocks of the activations, narrowed, and of the two weight matrices. -/
structure In (F : FTy → Type) where
  x : Dev nD → Vec F S1024x1024 .bf16
  a : Dev nD → Vec F S1024x4096 .f32
  b : Dev nD → Vec F S4096x1024 .f32

namespace In

variable (I : In F)

def xh (h : Fin 2) (c : Dev nD) : FVec F S512x1024 .bf16 := fun j => I.x c ((rRow h).emb j)
def a16 (c : Dev nD) : FVec F S1024x4096 .bf16 := truncf .bf16 (I.a c : FVec F S1024x4096 .f32) bitsLt_bf16_f32
def b16 (c : Dev nD) : FVec F S4096x1024 .bf16 := truncf .bf16 (I.b c : FVec F S4096x1024 .f32) bitsLt_bf16_f32

/-- 1024 hidden features of device `c`, and 512. -/
def quarter (c : Dev nD) (v : FVec F S512x1024 .bf16) (j : Fin 4) : FVec F S512x1024 .f32 :=
  part1024 v (fun i => I.a16 c ((rV1 j).emb i)) (fun i => I.b16 c ((rV2 j).emb i))
def eighth (c : Dev nD) (v : FVec F S512x1024 .bf16) (k : Fin 8) : FVec F S512x1024 .f32 :=
  part512 v (fun i => I.a16 c ((rW1 k).emb i)) (fun i => I.b16 c ((rW2 k).emb i))

/-- The product of a half block with device `c`'s share of the weights. -/
def prod (c : Dev nD) (v : FVec F S512x1024 .bf16) : FVec F S512x1024 .f32 :=
  addf (addf (addf (I.quarter c v 0) (I.quarter c v 1)) (I.quarter c v 2)) (I.quarter c v 3)
/-- The same, in eighths. -/
def prod8 (c : Dev nD) (v : FVec F S512x1024 .bf16) : FVec F S512x1024 .f32 :=
  addf (addf (addf (addf (addf (addf (addf (I.eighth c v 0) (I.eighth c v 1)) (I.eighth c v 2)) (I.eighth c v 3))
    (I.eighth c v 4)) (I.eighth c v 5)) (I.eighth c v 6)) (I.eighth c v 7)

/-- What device `c` sends as gather message `t` of a half: its own half block, then what it received. -/
def gat (h : Fin 2) : ℕ → Dev nD → FVec F S512x1024 .bf16
  | 0, c => I.xh h c
  | t + 1, c => gat h t (nb (opp h) c)

/-- The partial sum device `c` sends as reduction message `t` of a half, before rounding; and rounded. -/
def sum (h : Fin 2) : ℕ → Dev nD → FVec F S512x1024 .f32
  | 0, c => I.prod c (I.gat h 1 c)
  | t + 1, c => addf (I.prod c (I.gat h (t + 2) c)) (extf .f32 (truncf .bf16 (sum h t (nb (opp h) c)) bitsLt_bf16_f32 : FVec F S512x1024 .bf16) bitsLt_bf16_f32)
def red (h : Fin 2) (t : ℕ) (c : Dev nD) : FVec F S512x1024 .bf16 := truncf .bf16 (I.sum h t c) bitsLt_bf16_f32

/-- The half of device `c`'s block of the result. -/
def out (h : Fin 2) (c : Dev nD) : FVec F S512x1024 .f32 :=
  addf (match h with | 0 => I.prod8 c (I.xh 0 c) | 1 => I.prod c (I.xh 1 c)) (extf .f32 (I.red h 2 (nb (opp h) c)) bitsLt_bf16_f32)

/-- The message device `c` sends. -/
def msg (h : Ch) (t : Fin 3) (c : Dev nD) : FVec F S512x1024 .bf16 := match h with
  | .agA => I.gat 0 t.val c | .agB => I.gat 1 t.val c | .rsA => I.red 0 t.val c | .rsB => I.red 1 t.val c

end In

/-! ## The schedule -/

abbrev half : PosShare TreeShare := fullShare.left

/-- The credit of one message. -/
def N : ℕ := (slot (Memref.whole cc0_scratch4) 0).view.dmaCredit
theorem N_pos : 0 < N := View.dmaCredit_pos _ (by decide)
theorem land_credit (h : Ch) (t : Fin 3) : (slot h.land t).view.dmaCredit = N := by
  cases h <;> rfl
theorem src_credit (h : Ch) (t : Fin 3) : (h.src t).view.dmaCredit = N := by
  cases h
  · fin_cases t <;> rfl
  · fin_cases t <;> rfl
  · rfl
  · rfl

/-- The reduction and the gather of a direction. -/
abbrev landAny (c : Dev nD) (h : Ch) : sProp 𝕄 :=
  iprop(Steps.ownsAny (c : Thread nD τ) (slot h.land 0) ∗ Steps.ownsAny (c : Thread nD τ) (slot h.land 1) ∗ Steps.ownsAny (c : Thread nD τ) (slot h.land 2))

/-- All of a device's cells are at round 0 at least. -/
def reach (c : Dev nD) : sProp 𝕄 := bigSep Finset.univ fun i : CI => reached ER (cell c i) 0
instance reach_persistent (c : Dev nD) : BI.Persistent (reach c : sProp 𝕄) := by unfold reach; infer_instance

/-- What device `e` hands to the neighbour it hears from in direction `d`: the landing buffers of that direction. -/
def hand (d : Fin 2) (e : Dev nD) : sProp 𝕄 := iprop(reach e ∗ landAny e (ag d) ∗ landAny e (rs d))

/-- The contents handed over by each raise of a cell. -/
def pay (I : In F) (c : Dev nD) (i : CI) (d : Fin 2) : sProp 𝕄 := match i with
  | .bar => hand d (nb d c)
  | .ex => iprop(emp)
  | .sd h t => owns (c : Thread nD τ) (h.src t) half (I.msg h t c)
  | .rv h t => owns (c : Thread nD τ) (slot h.land t) fullShare (I.msg h t (h.from c))

def CI.duties : CI → Finset (Fin 2) | bar => Finset.univ | ex => Finset.univ | sd _ _ => {0} | rv _ _ => {0}
def CI.amount : CI → ℕ | bar => 1 | ex => 1 | sd _ _ => N | rv _ _ => N
theorem CI.amount_pos (i : CI) : 0 < i.amount := by cases i <;> first | exact Nat.one_pos | exact N_pos

def Rd (I : In F) : Rounds.Schedule (GSem nD τ sig) (Fin 2) 𝕄 where
  duties g r := if r = 0 ∧ g.1.2 = .tc then (match cellAt g.2 with | some i => i.duties | none => ∅) else ∅
  unitless _ := False
  amount g _ _ := match cellAt g.2 with | some i => i.amount | none => 1
  payload g _ d := match cellAt g.2 with | some i => pay I g.1.1 i d | none => iprop(emp)
  amount_pos g _ _ _ := by
    cases cellAt g.2 with
    | none => exact Nat.one_pos
    | some i => exact i.amount_pos

instance pay_storable (I : In F) (c : Dev nD) (i : CI) (d : Fin 2) : BI.Storable (upEmb : UEmb _ 𝕄) (pay I c i d) := by
  cases i
  · show BI.Storable upEmb (hand d (nb d c))
    unfold hand reach landAny Steps.ownsAny; infer_instance
  · show BI.Storable upEmb iprop(emp); infer_instance
  · unfold pay; infer_instance
  · unfold pay; infer_instance

instance Rd_storable (I : In F) (g : GSem nD τ sig) (r : ℕ) (d : Fin 2) : BI.Storable (upEmb : UEmb _ 𝕄) ((Rd I).payload g r d) := by
  show BI.Storable upEmb (match cellAt g.2 with | some i => pay I g.1.1 i d | none => iprop(emp))
  split <;> infer_instance

section Tables

variable (I : In F) (c : Dev nD) (i : CI)

theorem Rd_duties : (Rd I).duties (cell c i) 0 = i.duties := by
  have h : (0 : ℕ) = 0 ∧ (cell c i).1.2 = Proc.tc := ⟨rfl, rfl⟩
  refine (if_pos (e := (∅ : Finset (Fin 2))) h).trans ?_
  show (match cellAt i.loc with | some i => i.duties | none => ∅) = _
  rw [cellAt_loc]
theorem Rd_later (g : GSem nD τ sig) : ∀ r, 1 ≤ r → (Rd I).duties g r = ∅ := fun r hr => if_neg fun h => by omega
theorem Rd_amount (d : Fin 2) : (Rd I).amount (cell c i) 0 d = i.amount := by
  show (match cellAt i.loc with | some i => i.amount | none => 1) = _
  rw [cellAt_loc]
theorem Rd_payload (d : Fin 2) : (Rd I).payload (cell c i) 0 d = pay I c i d := by
  show (match cellAt i.loc with | some i => pay I c i d | none => iprop(emp)) = _
  rw [cellAt_loc]

def CI.total : CI → ℕ | bar => 2 | ex => 2 | sd _ _ => N | rv _ _ => N
theorem Rd_expect : (Rd I).expect (cell c i) 0 = i.total := by
  unfold Schedule.expect Schedule.amountOf
  rw [Rd_duties, Finset.sum_congr rfl fun d _ => Rd_amount I c i d]
  cases i <;> rfl
theorem Rd_rest1 (h : i.duties = {0}) : bigSep ((Rd I).duties (cell c i) 0 \ ∅) (fun d => (Rd I).payload (cell c i) 0 d) = pay I c i 0 := by
  rw [Finset.sdiff_empty, Rd_duties, h, bigSep_singleton, Rd_payload]
theorem Rd_rest2 (h : i.duties = Finset.univ) : bigSep ((Rd I).duties (cell c i) 0 \ ∅) (fun d => (Rd I).payload (cell c i) 0 d) = iprop(pay I c i 0 ∗ pay I c i 1) := by
  rw [Finset.sdiff_empty, Rd_duties, h, bigSep_univ_two, Rd_payload, Rd_payload]

end Tables

/-! ## What is owed, and the levels -/

/-- One thing a device owes the others. -/
inductive Ob where | bar (d : Fin 2) | msg (h : Ch) (t : Fin 3) | ex (d : Fin 2)

def Ob.cell (c : Dev nD) : Ob → GSem nD τ sig
  | bar d => Fused.cell (nb d c) .bar | msg h t => Fused.cell (h.to c) (.rv h t) | ex d => Fused.cell (nb d c) .ex
def Ob.amt : Ob → ℕ | bar _ => 1 | msg _ _ => N | ex _ => 1
def CI.lvl : CI → ℕ
  | bar => 1 | ex => 30 | sd _ _ => 0
  | rv .agA t => 10 + t.val | rv .agB t => 10 + t.val | rv .rsA t => 20 + t.val | rv .rsB t => 20 + t.val
def Ob.lvl : Ob → ℕ | bar _ => 1 | msg h t => (CI.rv h t).lvl | ex _ => 30

/-- A list of things owed, as the machine counts them. -/
def debt (c : Dev nD) (l : List Ob) : CellTallies nD τ sig Unit := (l.map fun o => tallyAt (o.cell c) () o.amt).sum

theorem debt_cons (c : Dev nD) (o : Ob) (l : List Ob) : debt c (o :: l) = debt c l + tallyAt (o.cell c) () o.amt := by
  unfold debt; rw [List.map_cons, List.sum_cons, add_comm]

/-- What a device owes, in the order it pays. -/
def allObs : List Ob :=
  [.bar 1, .bar 0, .msg .agA 0, .msg .agB 0, .msg .agA 1, .msg .agB 1, .msg .rsA 0, .msg .rsB 0, .msg .agA 2, .msg .agB 2,
   .msg .rsA 1, .msg .rsB 1, .msg .rsA 2, .msg .rsB 2, .ex 1, .ex 0]

def L (g : GSem nD τ sig) : Finset Unit := if g.1.2 = .tc then {()} else ∅
def lv (g : GSem nD τ sig) (_ : Unit) : ℕ := match cellAt g.2 with | some i => i.lvl | none => 0

theorem L_tc (c : Dev nD) (s : SemLoc sig) : L ((c : Thread nD τ), s) = {()} := if_pos rfl
theorem L_of_ne (g : GSem nD τ sig) (h : g.1.2 ≠ .tc) : L g = ∅ := if_neg h
theorem lv_cell (c : Dev nD) (i : CI) (u : Unit) : lv (cell c i) u = i.lvl := by
  show (match cellAt i.loc with | some i => i.lvl | none => 0) = _
  rw [cellAt_loc]
theorem lv_ob (c : Dev nD) (o : Ob) (u : Unit) : lv (o.cell c) u = o.lvl := by
  cases o <;> exact lv_cell _ _ _
theorem L_ob (c : Dev nD) (o : Ob) : L (o.cell c) = {()} := by cases o <;> exact L_tc _ _

theorem debt_pos (c : Dev nD) (l : List Ob) (g : GSem nD τ sig) (u : Unit) (h : 0 < debt c l g u) : ∃ o ∈ l, g = o.cell c := by
  induction l with
  | nil => exact absurd h (Nat.lt_irrefl 0)
  | cons o l ih =>
    rw [debt_cons] at h
    by_cases ho : g = o.cell c
    · exact ⟨o, List.mem_cons_self, ho⟩
    · have h0 : tallyAt (o.cell c) () o.amt g u = 0 := by rw [tallyAt_apply, if_neg (fun hh => ho hh.1)]
      have h' : 0 < debt c l g u + tallyAt (o.cell c) () o.amt g u := h
      rw [h0] at h'
      obtain ⟨o', hm, he⟩ := ih h'
      exact ⟨o', List.mem_cons_of_mem _ hm, he⟩

/-- A wait below the levels of everything still owed is allowed. -/
theorem mayWait (c : Dev nD) (s : SemLoc sig) (n : ℕ) (l : List Ob) (hs : lv ((c : Thread nD τ), s) () ≤ n) (hl : ∀ o ∈ l, n < o.lvl) :
    (levAts L lv : sProp 𝕄) ⊢ MayWait (c : Thread nD τ) s () (debt c l) :=
  MayOwe.of_cut (L := L) (lev := lv) n
    (fun p hp => by rw [Finset.mem_singleton.mp hp, L_tc]; exact Finset.mem_singleton_self _)
    (fun g u hg => by obtain ⟨o, _, rfl⟩ := debt_pos c l g u hg; rw [L_ob]; exact Finset.mem_singleton_self _)
    (fun p hp => by rw [Finset.mem_singleton.mp hp]; exact hs)
    (fun g u hg => by obtain ⟨o, ho, rfl⟩ := debt_pos c l g u hg; rw [lv_ob]; exact hl o ho)

end Cert.KernelIdeal.Fused

end
-- ==== Proof.Talk.lean ====
/-
  The steps of the protocol as rules: sending a message, receiving one, waiting for one to have left, the two handshakes.
-/
module

public import proofs.«01_k».proof.Proof.Ring

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

variable (I : In F) (K : GSem nD τ sig → ℕ) (c : Dev nD)

/-- Running one of the kernel's programs on device `c`. -/
abbrev run {α : Type} (p : P F α) (Q : α → sProp 𝕄) : sProp 𝕄 := wp frame (wpE (defs₀ (F := F)) 𝒱₀ (c : Thread nD τ) none) Set.univ p Q

/-- The invariants of all the cells. -/
def invs : sProp 𝕄 := bigSep Finset.univ fun p : Dev nD × CI => cellInv ER (Rd I) (K (cell p.1 p.2)) (cell p.1 p.2)
instance invs_persistent : BI.Persistent (invs I K) := by unfold invs; infer_instance

theorem invs_at (d : Dev nD) (i : CI) : invs I K ⊢ cellInv ER (Rd I) (K (cell d i)) (cell d i) :=
  bigSep_elim (Φ := fun p : Dev nD × CI => cellInv ER (Rd I) (K (cell p.1 p.2)) (cell p.1 p.2)) (Finset.mem_univ (d, i))
theorem reach_at (i : CI) : (reach c : sProp 𝕄) ⊢ reached ER (cell c i) 0 :=
  bigSep_elim (Φ := fun i : CI => reached ER (cell c i) 0) (Finset.mem_univ i)

/-- What a device may consult throughout: the invariants, its own cells' rounds, the neighbours' entry cells' rounds, the levels. -/
def ctx : sProp 𝕄 :=
  iprop(invs I K ∗ reach c ∗ reached ER (cell (nb 0 c) .bar) 0 ∗ reached ER (cell (nb 1 c) .bar) 0 ∗ levAts L lv)
instance ctx_persistent : BI.Persistent (ctx I K c) := by unfold ctx; infer_instance
/-- With the neighbours' cells' rounds, known after the entry handshake. -/
def ctx2 : sProp 𝕄 := iprop(ctx I K c ∗ reach (nb 0 c) ∗ reach (nb 1 c))
instance ctx2_persistent : BI.Persistent (ctx2 I K c) := by unfold ctx2; infer_instance

theorem ctx_invs : ctx I K c ⊢ invs I K := by unfold ctx; iintro ⟨H, -⟩; iexact H
theorem ctx_reach : ctx I K c ⊢ reach c := by unfold ctx; iintro ⟨-, H, -⟩; iexact H
theorem ctx_lev : ctx I K c ⊢ levAts L lv := by unfold ctx; iintro ⟨-, -, -, -, H⟩; iexact H
theorem ctx_bar (d : Fin 2) : ctx I K c ⊢ reached ER (cell (nb d c) .bar) 0 := by
  unfold ctx; fin_cases d
  · iintro ⟨-, -, H, -⟩; iexact H
  · iintro ⟨-, -, -, H, -⟩; iexact H
theorem ctx2_ctx : ctx2 I K c ⊢ ctx I K c := by unfold ctx2; iintro ⟨H, -⟩; iexact H
theorem ctx2_nb (d : Fin 2) : ctx2 I K c ⊢ reach (nb d c) := by
  unfold ctx2; fin_cases d
  · iintro ⟨-, H, -⟩; iexact H
  · iintro ⟨-, -, H⟩; iexact H

/-- What is owed, whatever waits are recorded. -/
def owe (l : List Ob) : sProp 𝕄 := iprop(∃ W, owes (c : Thread nD τ) (debt c l) W)
abbrev fresh (i : CI) : sProp 𝕄 := atPos ER (cell c i) 0 ∅ 0
abbrev over (i : CI) : sProp 𝕄 := atPos ER (cell c i) 1 ∅ 0
abbrev credit (i : CI) : sProp 𝕄 := cred (tallyAt (cell c i) () i.total)
/-- The right to raise the two cells of a message sent. -/
def tok (h : Ch) (t : Fin 3) : sProp 𝕄 := iprop(dutyTok ER (cell c (.sd h t)) 0 0 ∗ dutyTok ER (cell (h.to c) (.rv h t)) 0 0)

theorem from_to (h : Ch) : h.from (h.to c) = c := opp_nb _ _

theorem wait_cell (i : CI) {w : TpuEff nD τ sig (Elt F) Λ₀ .tc PUnit}
    (hw : ∀ Kt : PUnit → sProp 𝕄, wpE (defs₀ (F := F)) 𝒱₀ (c : Thread nD τ) none Set.univ w Kt = waitSpec (c : Thread nD τ) Set.univ i.loc i.total Kt)
    (l : List Ob) (hl : ∀ o ∈ l, i.lvl < o.lvl) (Q : PUnit → sProp 𝕄) :
    iprop(ctx I K c ∗ fresh c i ∗ credit c i ∗ owe c l
        ∗ (bigSep ((Rd I).duties (cell c i) 0 \ ∅) (fun d => (Rd I).payload (cell c i) 0 d) -∗ over c i -∗ owe c l -∗ Q ⟨⟩))
      ⊢ run c (Prog.lift w) Q := by
  unfold owe
  iintro ⟨#Hctx, Hat, Hc, ⟨%W, HO⟩, Hk⟩
  iapply (Rounds.wp_wait_rest_token 𝒱₀ ER (Rd I) (c : Thread nD τ) none (κ := K (cell c i)) hw (Set.mem_univ _) () (O := debt c l) (W := W) (R := 0) (m := 0) (T := ∅)
      ((Nat.zero_add _).trans (Rd_expect I c i).symm)) $$ [Hc HO Hat]
  · isplitr; · iapply (invs_at I K c i); iapply (ctx_invs I K c); iexact Hctx
    isplitl [Hc]; · iexact Hc
    isplitl [HO]; · iexact HO
    isplitr; · iapply (mayWait c i.loc i.lvl l (Nat.le_of_eq (lv_cell c i ())) hl); iapply (ctx_lev I K c); iexact Hctx
    iexact Hat
  iintro ⟨HO, Hat, -, Hpay⟩
  rw [wp_ret]
  imodintro
  iapply Hk $$ Hpay Hat
  iexists _; iexact HO

theorem recv_step (h : Ch) (t : Fin 3) (l : List Ob) (hl : ∀ o ∈ l, (CI.rv h t).lvl < o.lvl) (Q : PUnit → sProp 𝕄) :
    iprop(ctx I K c ∗ fresh c (.rv h t) ∗ credit c (.rv h t) ∗ owe c l
        ∗ (owns (c : Thread nD τ) (slot h.land t) fullShare (I.msg h t (h.from c)) -∗ over c (.rv h t) -∗ owe c l -∗ Q ⟨⟩))
      ⊢ run c (recv h t) Q := by
  have e := Rd_rest1 I c (.rv h t) rfl
  refine BIBase.Entails.trans ?_ (wait_cell I K c (.rv h t) (w := .waitDma2 (h.recvS t) (h.src t) (slot h.land t) (h.src_words t) (h.land_words t))
    (fun Kt => (wpE_waitDma2_eq 𝒱₀ (c : Thread nD τ) none Set.univ Kt).trans (by rw [land_credit]; rfl)) l hl Q)
  rw [e]
  exact Entails.refl _

theorem drain_step (h : Ch) (t : Fin 3) (l : List Ob) (hl : ∀ o ∈ l, (CI.sd h t).lvl < o.lvl) (Q : PUnit → sProp 𝕄) :
    iprop(ctx I K c ∗ fresh c (.sd h t) ∗ credit c (.sd h t) ∗ owe c l
        ∗ (owns (c : Thread nD τ) (h.src t) half (I.msg h t c) -∗ over c (.sd h t) -∗ owe c l -∗ Q ⟨⟩))
      ⊢ run c (drain h t) Q := by
  have e := Rd_rest1 I c (.sd h t) rfl
  refine BIBase.Entails.trans ?_ (wait_cell I K c (.sd h t) (w := .waitDma2 (h.sendS t) (slot h.land t) (h.src t) (h.land_words t) (h.src_words t))
    (fun Kt => (wpE_waitDma2_eq 𝒱₀ (c : Thread nD τ) none Set.univ Kt).trans (by rw [src_credit]; rfl)) l hl Q)
  rw [e]
  exact Entails.refl _

theorem send_step (h : Ch) (t : Fin 3) (l : List Ob) (Q : PUnit → sProp 𝕄) :
    iprop(ctx2 I K c ∗ tok c h t ∗ Steps.ownsAny (h.to c : Thread nD τ) (slot h.land t) ∗ owns (c : Thread nD τ) (h.src t) half (I.msg h t c)
        ∗ owe c (.msg h t :: l)
        ∗ (credit c (.sd h t) -∗ owe c l -∗ Q ⟨⟩))
      ⊢ run c (send h t (h.to c)) Q := by
  unfold tok owe Steps.ownsAny owns
  iintro ⟨#Hctx, ⟨HtS, HtR⟩, ⟨%Y, %fd, %_hd, Hd⟩, ⟨%fs, %hs, Hs⟩, ⟨%W, HO⟩, Hk⟩
  iapply (Rounds.wp_send_pointsTo 𝒱₀ ER (Rd I) (c : Thread nD τ) none (c' := (h.to c : Thread nD τ)) (src := h.src t) (dst := slot h.land t)
      (sS := .dma (h.sendS t)) (sem := .dma (h.recvS t)) (q := half) (fs := fs) (κ₁ := K (cell c (.sd h t))) (κ₂ := K (cell (h.to c) (.rv h t)))
      (r₁ := 0) (r₂ := 0) (d₁ := 0) (d₂ := 0) (fd := fd)
      ((Rd_duties I c (.sd h t)) ▸ Finset.mem_singleton_self _) ((Rd_duties I (h.to c) (.rv h t)) ▸ Finset.mem_singleton_self _)
      () () N (land_credit h t) (Rd_amount I c (.sd h t) 0) (Rd_amount I (h.to c) (.rv h t) 0) (debt c l) (debt_cons c (.msg h t) l) (W := W)
      (by
        refine BIBase.Entails.trans ?_ (Entails.of_eq (Rd_payload I c (.sd h t) 0).symm)
        show _ ⊢ (owns (c : Thread nD τ) (h.src t) half (I.msg h t c) : sProp 𝕄)
        unfold owns
        iintro H; iexists fs; isplitr
        · ipureintro; exact hs
        iexact H)
      (by
        refine BIBase.Entails.trans ?_ (Entails.of_eq (Rd_payload I (h.to c) (.rv h t) 0).symm)
        show _ ⊢ (owns (h.to c : Thread nD τ) (slot h.land t) fullShare (I.msg h t (h.from (h.to c))) : sProp 𝕄)
        rw [from_to, ← hs]
        unfold owns
        iintro H; iexists _; isplitr [H]
        rotate_left
        · iexact H
        ipureintro; exact View.read_write_univ (v := (slot h.land t).view) _ _)) $$ [Hs Hd HO HtS HtR]
  · isplitr; · iapply (invs_at I K c (.sd h t)); iapply (ctx_invs I K c); iapply (ctx2_ctx I K c); iexact Hctx
    isplitr; · iapply (invs_at I K (h.to c) (.rv h t)); iapply (ctx_invs I K c); iapply (ctx2_ctx I K c); iexact Hctx
    isplitl [Hs]; · iexact Hs
    isplitl [Hd]; · iexact Hd
    isplitl [HO]; · iexact HO
    isplitl [HtS]; · iexact HtS
    isplitr; · iapply (reach_at c (.sd h t)); iapply (ctx_reach I K c); iapply (ctx2_ctx I K c); iexact Hctx
    isplitl [HtR]; · iexact HtR
    iapply (reach_at (h.to c) (.rv h t)); iapply (ctx2_nb I K c h.half); iexact Hctx
  iintro ⟨Hc, HO⟩
  rw [wp_ret]
  imodintro
  iapply Hk $$ [Hc] [HO]
  · iexact Hc
  · iexists _; iexact HO

/-! ## The handshakes -/

theorem signal_step (dst : Dev nD) (s : Idealize.ShloMosaic.Sem sig) (d : Fin 2) (o : Ob) (l : List Ob)
    (hm : d ∈ (Rd I).duties ((dst : Thread nD τ), .reg s) 0) (ha : (Rd I).amount ((dst : Thread nD τ), .reg s) 0 d = 1)
    (hO : debt c (o :: l) = debt c l + tallyAt ((dst : Thread nD τ), SemLoc.reg s) () 1) (R : sProp 𝕄) (hR : (Rd I).payload ((dst : Thread nD τ), .reg s) 0 d = R) (Q : PUnit → sProp 𝕄) :
    iprop(cellInv ER (Rd I) (K ((dst : Thread nD τ), .reg s)) ((dst : Thread nD τ), .reg s)
        ∗ dutyTok ER ((dst : Thread nD τ), .reg s) 0 d ∗ R ∗ reached ER ((dst : Thread nD τ), .reg s) 0 ∗ owe c (o :: l)
        ∗ (owe c l -∗ Q ⟨⟩))
      ⊢ run c (semSignalWord dst s 1#32) Q := by
  subst hR
  unfold owe
  iintro ⟨#Hinv, Ht, Hpay, Hr, ⟨%W, HO⟩, Hk⟩
  iapply (Rounds.wp_signal 𝒱₀ ER (Rd I) (c : Thread nD τ) none (dst := (dst : Thread nD τ)) (sem := s) (r := 0) (d := d) (κ := K ((dst : Thread nD τ), .reg s))
      (k' := 1) hm ha () (debt c l) hO (W := W)) $$ [HO Ht Hpay Hr]
  · isplitr; · iexact Hinv
    isplitl [HO]; · iexact HO
    isplitl [Ht]; · iexact Ht
    isplitl [Hpay]; · iexact Hpay
    iexact Hr
  iintro HO
  rw [wp_ret]
  imodintro
  iapply Hk
  iexists _; iexact HO

theorem pay_bar (d d' : Fin 2) (h : nb d' (nb d c) = c) : hand d' c ⊢ pay I (nb d c) .bar d' := by
  show _ ⊢ hand d' (nb d' (nb d c))
  rw [h]
theorem pay_ex (d : Fin 2) : iprop(emp) ⊢ pay I c .ex d := BI.Entails.refl _

theorem enter_step (l : List Ob) (hl : ∀ o ∈ l, 1 < o.lvl) (Q : PUnit → sProp 𝕄) :
    iprop(ctx I K c ∗ dutyTok ER (cell (nb 1 c) .bar) 0 0 ∗ dutyTok ER (cell (nb 0 c) .bar) 0 1
        ∗ landAny c .agA ∗ landAny c .rsA ∗ landAny c .agB ∗ landAny c .rsB
        ∗ fresh c .bar ∗ credit c .bar ∗ owe c (.bar 1 :: .bar 0 :: l)
        ∗ (ctx2 I K c -∗ landAny (nb 0 c) .agA -∗ landAny (nb 0 c) .rsA -∗ landAny (nb 1 c) .agB -∗ landAny (nb 1 c) .rsB
          -∗ over c .bar -∗ owe c l -∗ Q ⟨⟩))
      ⊢ run c (enter (nb 1 c) (nb 0 c)) Q := by
  unfold enter run
  simp only [wp_bind]
  iintro ⟨#Hctx, Ht1, Ht0, HaA, HrA, HaB, HrB, Hat, Hc, HO, Hk⟩
  ihave #Hinv := (ctx_invs I K c) $$ Hctx
  ihave #Hre := (ctx_reach I K c) $$ Hctx
  iapply (signal_step I K c (nb 1 c) barS 0 (.bar 1) (.bar 0 :: l) (Rd_duties I (nb 1 c) .bar ▸ Finset.mem_univ _) (Rd_amount I (nb 1 c) .bar 0) (debt_cons c (.bar 1) _) _ (Rd_payload I (nb 1 c) .bar 0))
  isplitr; · iapply (invs_at I K (nb 1 c) .bar); iexact Hinv
  isplitl [Ht1]; · iexact Ht1
  isplitl [HaA HrA]
  · iapply (pay_bar I c 1 0 (nb_opp 0 c))
    unfold hand
    isplitr; · iexact Hre
    isplitl [HaA]; · iexact HaA
    iexact HrA
  isplitr; · iapply (ctx_bar I K c 1); iexact Hctx
  isplitl [HO]; · iexact HO
  iintro HO
  iapply (signal_step I K c (nb 0 c) barS 1 (.bar 0) l (Rd_duties I (nb 0 c) .bar ▸ Finset.mem_univ _) (Rd_amount I (nb 0 c) .bar 1) (debt_cons c (.bar 0) _) _ (Rd_payload I (nb 0 c) .bar 1))
  isplitr; · iapply (invs_at I K (nb 0 c) .bar); iexact Hinv
  isplitl [Ht0]; · iexact Ht0
  isplitl [HaB HrB]
  · iapply (pay_bar I c 0 1 (nb_opp 1 c))
    unfold hand
    isplitr; · iexact Hre
    isplitl [HaB]; · iexact HaB
    iexact HrB
  isplitr; · iapply (ctx_bar I K c 0); iexact Hctx
  isplitl [HO]; · iexact HO
  iintro HO
  iapply (wait_cell I K c .bar (wpE_semWait_eq 𝒱₀ (c : Thread nD τ) none Set.univ) l hl)
  rw [Rd_rest2 I c .bar rfl]
  isplitr; · iexact Hctx
  isplitl [Hat]; · iexact Hat
  isplitl [Hc]; · iexact Hc
  isplitl [HO]; · iexact HO
  unfold pay hand
  iintro ⟨⟨#Hr0, HaA, HrA⟩, ⟨#Hr1, HaB, HrB⟩⟩ Hat HO
  iapply Hk $$ [] [HaA] [HrA] [HaB] [HrB] [Hat] [HO]
  · unfold ctx2
    isplitr; · iexact Hctx
    isplitr <;> iassumption
  · iexact HaA
  · iexact HrA
  · iexact HaB
  · iexact HrB
  · iexact Hat
  · iexact HO

theorem leave_step (Q : PUnit → sProp 𝕄) :
    iprop(ctx2 I K c ∗ dutyTok ER (cell (nb 1 c) .ex) 0 0 ∗ dutyTok ER (cell (nb 0 c) .ex) 0 1
        ∗ fresh c .ex ∗ credit c .ex ∗ owe c [.ex 1, .ex 0] ∗ (over c .ex -∗ owe c [] -∗ Q ⟨⟩))
      ⊢ run c (leave (nb 1 c) (nb 0 c)) Q := by
  unfold leave run
  simp only [wp_bind]
  iintro ⟨#Hctx2, Ht1, Ht0, Hat, Hc, HO, Hk⟩
  ihave #Hctx := (ctx2_ctx I K c) $$ Hctx2
  ihave #Hinv := (ctx_invs I K c) $$ Hctx
  iapply (signal_step I K c (nb 1 c) exS 0 (.ex 1) [.ex 0] (Rd_duties I (nb 1 c) .ex ▸ Finset.mem_univ _) (Rd_amount I (nb 1 c) .ex 0) (debt_cons c (.ex 1) _) _ (Rd_payload I (nb 1 c) .ex 0))
  isplitr; · iapply (invs_at I K (nb 1 c) .ex); iexact Hinv
  isplitl [Ht1]; · iexact Ht1
  isplitr
  · iapply (pay_ex I (nb 1 c) 0); iempintro
  isplitr; · iapply (reach_at (nb 1 c) .ex); iapply (ctx2_nb I K c 1); iexact Hctx2
  isplitl [HO]; · iexact HO
  iintro HO
  iapply (signal_step I K c (nb 0 c) exS 1 (.ex 0) [] (Rd_duties I (nb 0 c) .ex ▸ Finset.mem_univ _) (Rd_amount I (nb 0 c) .ex 1) (debt_cons c (.ex 0) _) _ (Rd_payload I (nb 0 c) .ex 1))
  isplitr; · iapply (invs_at I K (nb 0 c) .ex); iexact Hinv
  isplitl [Ht0]; · iexact Ht0
  isplitr
  · iapply (pay_ex I (nb 0 c) 1); iempintro
  isplitr; · iapply (reach_at (nb 0 c) .ex); iapply (ctx2_nb I K c 0); iexact Hctx2
  isplitl [HO]; · iexact HO
  iintro HO
  iapply (wait_cell I K c .ex (wpE_semWait_eq 𝒱₀ (c : Thread nD τ) none Set.univ) [] (fun o ho => absurd ho List.not_mem_nil))
  isplitr; · iexact Hctx
  isplitl [Hat]; · iexact Hat
  isplitl [Hc]; · iexact Hc
  isplitl [HO]; · iexact HO
  iintro - Hat HO
  iapply Hk $$ Hat HO

end Cert.KernelIdeal.Fused

end
-- ==== Proof.Stream.lean ====
/-
  Streaming the weights in: each tile is copied into a staging slot while the tile before last is used, narrowed, and put in
  its place; meanwhile the upper half of the own block goes through it.
-/
module

public import proofs.«01_k».proof.Proof.Talk

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : In F) (K : GSem nD τ sig → ℕ) (c : Dev nD)

/-- The tiles of the weights as they lie in the arrays. -/
def aT (k : Fin 8) : Vec F S1024x512 .f32 := fun j => I.a c ((rW1 k).emb j)
def bT (k : Fin 8) : Vec F S512x1024 .f32 := fun j => I.b c ((rW2 k).emb j)
/-- And narrowed. -/
def a16T (k : Fin 8) : Vec F S1024x512 .bf16 := fun j => I.a16 c ((rW1 k).emb j)
def b16T (k : Fin 8) : Vec F S512x1024 .bf16 := fun j => I.b16 c ((rW2 k).emb j)

def srcT (k : Fin 8) : sProp 𝕄 := iprop(owns (c : Thread nD τ) (w1T k) fullShare (aT I c k) ∗ owns (c : Thread nD τ) (w2T k) fullShare (bT I c k))
def anyT (k : Fin 8) : sProp 𝕄 := iprop(Steps.ownsAny (c : Thread nD τ) (b1T k) ∗ Steps.ownsAny (c : Thread nD τ) (b2T k))
def gotT (k : Fin 8) : sProp 𝕄 := iprop(owns (c : Thread nD τ) (b1T k) fullShare (a16T I c k) ∗ owns (c : Thread nD τ) (b2T k) fullShare (b16T I c k))
/-- The staging slots of a parity and their counters, free. -/
def freeT (p : Fin 2) (m n : Fin 4) : sProp 𝕄 :=
  iprop(Steps.ownsAny (c : Thread nD τ) (s1T p) ∗ Steps.ownsAny (c : Thread nD τ) (s2T p)
    ∗ semVal ((c : Thread nD τ), SemLoc.dma (wsem m)) 0 ∗ semVal ((c : Thread nD τ), SemLoc.dma (wsem n)) 0)
/-- Both copies of tile `k` in flight. -/
def flyT (k : Fin 8) : sProp 𝕄 :=
  iprop(Steps.Fly (c : Thread nD τ) EC (w1T k) (s1T (par k)) (wsem (q1 k)) () fullShare (aT I c k)
    ∗ Steps.Fly (c : Thread nD τ) EC (w2T k) (s2T (par k)) (wsem (q2 k)) () fullShare (bT I c k))

theorem start_step (k : Fin 8) (Q : PUnit → sProp 𝕄) :
    iprop(srcT I c k ∗ freeT c (par k) (q1 k) (q2 k) ∗ (flyT I c k -∗ Q ⟨⟩))
      ⊢ run c (do start1 k; start2 k) Q := by
  unfold run srcT freeT flyT Steps.ownsAny
  simp only [wp_bind]
  iintro ⟨⟨H1, H2⟩, ⟨⟨%X1, HX1⟩, ⟨%X2, HX2⟩, Hv1, Hv2⟩, HQ⟩
  unfold start1 start2
  iapply (Steps.start_local 𝒱₀ (c : Thread nD τ) none EC () (View.dmaCredit_pos _ (by decide)) (q := fullShare) (X := aT I c k) (X' := X1))
  isplitl [H1]; · iexact H1
  isplitl [HX1]; · iexact HX1
  isplitl [Hv1]; · iexact Hv1
  iintro HF1
  iapply (Steps.start_local 𝒱₀ (c : Thread nD τ) none EC () (View.dmaCredit_pos _ (by decide)) (q := fullShare) (X := bT I c k) (X' := X2))
  isplitl [H2]; · iexact H2
  isplitl [HX2]; · iexact HX2
  isplitl [Hv2]; · iexact Hv2
  iintro HF2
  iapply HQ
  isplitl [HF1]; · iexact HF1
  iexact HF2

theorem narrow1_eq (Y : Vec F S1x1024x512 .f32) (k : Fin 8) (h : shapeCast S1024x512 Y shapeCasts_S1x1024x512_S1024x512 = aT I c k) :
    narrow1 Y = a16T I c k := by
  unfold narrow1
  rw [h, Steps.shapeCast_same]
  rfl
theorem narrow2_eq (Y : Vec F S1x512x1024 .f32) (k : Fin 8) (h : shapeCast S512x1024 Y shapeCasts_S1x512x1024_S512x1024 = bT I c k) :
    narrow2 Y = b16T I c k := by
  unfold narrow2
  rw [h, Steps.shapeCast_same]
  rfl

theorem ob_pos (l : List Ob) (hl : ∀ o ∈ l, 0 < o.lvl) (n : Fin 4) :
    (levAts L lv : sProp 𝕄) ⊢ MayWait (c : Thread nD τ) (.dma (wsem n)) () (debt c l) :=
  mayWait c _ 0 l (by
    show (match cellAt (.dma (wsem n)) with | some i => i.lvl | none => 0) ≤ 0
    rw [cellAt_wsem]) hl

theorem place_step (k : Fin 8) (l : List Ob) (hl : ∀ o ∈ l, 0 < o.lvl) (Q : PUnit → sProp 𝕄) :
    iprop(ctx I K c ∗ flyT I c k ∗ anyT c k ∗ owe c l
        ∗ (srcT I c k -∗ gotT I c k -∗ freeT c (par k) (q1 k) (q2 k) -∗ owe c l -∗ Q ⟨⟩))
      ⊢ run c (place k) Q := by
  unfold run flyT anyT Steps.ownsAny owe place
  simp only [wp_bind]
  iintro ⟨#Hctx, ⟨HF1, HF2⟩, ⟨⟨%Y1, HB1⟩, ⟨%Y2, HB2⟩⟩, ⟨%W, HO⟩, HQ⟩
  ihave #Hlev := (ctx_lev I K c) $$ Hctx
  unfold wait1 wait2 loadB1 loadB2
  iapply (Steps.wait_local 𝒱₀ (c : Thread nD τ) none EC () (q := fullShare) (X := aT I c k) (O := debt c l) (W := W))
  isplitl [HF1]; · iexact HF1
  isplitl [HO]; · iexact HO
  isplitr; · iapply (ob_pos c l hl); iexact Hlev
  iintro Hs1 Hw1 Hv1 HO
  iapply (Steps.load_slot 𝒱₀ (c : Thread nD τ) none shapeCasts_S1x1024x512_S1024x512 (hr := fun _ => rfl) (h := squeezes_S1x1024x512_S1024x512) (q := fullShare) (X := aT I c k))
  isplitl [Hs1]; · iexact Hs1
  iintro %Z1 %hZ1 Hs1
  iapply (Steps.load_slice 𝒱₀ (c : Thread nD τ) none (hr := fun _ => rfl) (q := fullShare) (X := Y1))
  isplitl [HB1]; · iexact HB1
  iintro HB1
  iapply (Steps.store_slice 𝒱₀ (c : Thread nD τ) none (hr := fun _ => rfl) (X := Y1))
  isplitl [HB1]; · iexact HB1
  rw [narrow1_eq I c Z1 k hZ1]
  iintro HB1
  iapply (Steps.wait_local 𝒱₀ (c : Thread nD τ) none EC () (q := fullShare) (X := bT I c k) (O := debt c l))
  isplitl [HF2]; · iexact HF2
  isplitl [HO]; · iexact HO
  isplitr; · iapply (ob_pos c l hl); iexact Hlev
  iintro Hs2 Hw2 Hv2 HO
  iapply (Steps.load_slot 𝒱₀ (c : Thread nD τ) none shapeCasts_S1x512x1024_S512x1024 (hr := fun _ => rfl) (h := squeezes_S1x512x1024_S512x1024) (q := fullShare) (X := bT I c k))
  isplitl [Hs2]; · iexact Hs2
  iintro %Z2 %hZ2 Hs2
  iapply (Steps.load_slice 𝒱₀ (c : Thread nD τ) none (hr := fun _ => rfl) (q := fullShare) (X := Y2))
  isplitl [HB2]; · iexact HB2
  iintro HB2
  iapply (Steps.store_slice 𝒱₀ (c : Thread nD τ) none (hr := fun _ => rfl) (X := Y2))
  isplitl [HB2]; · iexact HB2
  rw [narrow2_eq I c Z2 k hZ2]
  iintro HB2
  iapply HQ $$ [Hw1 Hw2] [HB1 HB2] [Hs1 Hs2 Hv1 Hv2] [HO]
  · unfold srcT; isplitl [Hw1] <;> iassumption
  · unfold gotT; isplitl [HB1] <;> iassumption
  · unfold freeT Steps.ownsAny
    isplitl [Hs1]; · iexists _; iexact Hs1
    isplitl [Hs2]; · iexists _; iexact Hs2
    isplitl [Hv1] <;> iassumption
  · iexists _; iexact HO

/-- The two loads that fetch a placed tile. -/
theorem fetch_step {α : Type} (k : Fin 8) (p : Vec F S1024x512 .bf16 → Vec F S512x1024 .bf16 → P F α) (Q : α → sProp 𝕄) :
    iprop(gotT I c k ∗ (gotT I c k -∗ run c (p (a16T I c k) (b16T I c k)) Q))
      ⊢ run c (do let a ← loadB1 k; let b ← loadB2 k; p a b) Q := by
  unfold run gotT loadB1 loadB2
  simp only [wp_bind]
  iintro ⟨⟨H1, H2⟩, HQ⟩
  iapply (Steps.load_slice 𝒱₀ (c : Thread nD τ) none (hr := fun _ => rfl) (q := fullShare) (X := a16T I c k))
  isplitl [H1]; · iexact H1
  iintro H1
  iapply (Steps.load_slice 𝒱₀ (c : Thread nD τ) none (hr := fun _ => rfl) (q := fullShare) (X := b16T I c k))
  isplitl [H2]; · iexact H2
  iintro H2
  iapply HQ
  isplitl [H1] <;> iassumption

theorem stream_step (k k2 : Fin 8) (hk : par k2 = par k) (h1 : q1 k2 = q1 k) (h2 : q2 k2 = q2 k) (f : FVec F S512x1024 .f32 → FVec F S512x1024 .f32) (x : FVec F S512x1024 .bf16)
    (l : List Ob) (hl : ∀ o ∈ l, 0 < o.lvl) (Q : FVec F S512x1024 .f32 → sProp 𝕄) :
    iprop(ctx I K c ∗ flyT I c k ∗ anyT c k ∗ srcT I c k2 ∗ owe c l
        ∗ (srcT I c k -∗ gotT I c k -∗ flyT I c k2 -∗ owe c l -∗ Q (f (I.eighth c x k))))
      ⊢ run c (stream k k2 f x) Q := by
  unfold stream
  rw [show run c (do place k; start1 k2; start2 k2; let a ← loadB1 k; let b ← loadB2 k; pure (f (part512 x a b))) Q
    = run c (place k) (fun _ => run c (do start1 k2; start2 k2) (fun _ => run c (do let a ← loadB1 k; let b ← loadB2 k; pure (f (part512 x a b))) Q)) from by
      unfold run; simp only [wp_bind]]
  iintro ⟨#Hctx, HF, HB, Hs, HO, HQ⟩
  iapply (place_step I K c k l hl)
  isplitr; · iexact Hctx
  isplitl [HF]; · iexact HF
  isplitl [HB]; · iexact HB
  isplitl [HO]; · iexact HO
  iintro Hk Hg Hfr HO
  iapply (start_step I c k2)
  isplitl [Hs]; · iexact Hs
  isplitl [Hfr]; · rw [hk, h1, h2]; iexact Hfr
  iintro HF
  iapply (fetch_step I c k)
  isplitl [Hg]; · iexact Hg
  iintro Hg
  unfold run
  rw [show (pure (f (part512 x (a16T I c k) (b16T I c k))) : P F _) = Prog.ret (f (I.eighth c x k)) from rfl, wp_ret]
  imodintro
  iapply HQ $$ Hk Hg HF HO

theorem streamLast_step (k : Fin 8) (acc : FVec F S512x1024 .f32) (x : FVec F S512x1024 .bf16)
    (l : List Ob) (hl : ∀ o ∈ l, 0 < o.lvl) (Q : FVec F S512x1024 .f32 → sProp 𝕄) :
    iprop(ctx I K c ∗ flyT I c k ∗ anyT c k ∗ owe c l
        ∗ (srcT I c k -∗ gotT I c k -∗ freeT c (par k) (q1 k) (q2 k) -∗ owe c l -∗ Q (addf acc (I.eighth c x k))))
      ⊢ run c (streamLast k acc x) Q := by
  unfold streamLast
  rw [show run c (do place k; let a ← loadB1 k; let b ← loadB2 k; pure (addf acc (part512 x a b))) Q
    = run c (place k) (fun _ => run c (do let a ← loadB1 k; let b ← loadB2 k; pure (addf acc (part512 x a b))) Q) from by
      unfold run; simp only [wp_bind]]
  iintro ⟨#Hctx, HF, HB, HO, HQ⟩
  iapply (place_step I K c k l hl)
  isplitr; · iexact Hctx
  isplitl [HF]; · iexact HF
  isplitl [HB]; · iexact HB
  isplitl [HO]; · iexact HO
  iintro Hk Hg Hfr HO
  iapply (fetch_step I c k)
  isplitl [Hg]; · iexact Hg
  iintro Hg
  unfold run
  rw [show (pure (addf acc (part512 x (a16T I c k) (b16T I c k))) : P F _) = Prog.ret (addf acc (I.eighth c x k)) from rfl, wp_ret]
  imodintro
  iapply HQ $$ Hk Hg Hfr HO

end Cert.KernelIdeal.Fused

end
-- ==== Proof.Pieces.lean ====
/-
  The rectangles a buffer is cut into: they do not meet and they cover it, so that a buffer and its pieces are owned together.
-/
module

public import proofs.«01_k».proof.Proof.Stream

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Pieces that do not meet -/

/-- Rectangles of one width on an axis, each at its multiple of it there, do not meet. -/
theorem apart {s : Shape} {n : ℕ} (r : Fin n → Rect s) (a : Fin s.rank) (w : ℕ) (hpos : 0 < w) (ho : ∀ t, (r t).off a = w * t.val)
    (hw : ∀ t, (r t).size a = w) (h1 : ∀ t, (r t).stride a = 1) (t t' : Fin n) (h : t ≠ t') : Disjoint (r t).set (r t').set := by
  refine Rect.disjoint_of_separated (r t) (r t') a ?_
  rw [ho, ho, hw, hw, h1, h1]
  rcases Nat.lt_or_gt_of_ne (fun e => h (Fin.ext e)) with hlt | hlt
  · left; right
    have := Nat.mul_le_mul_left w (Nat.succ_le_of_lt hlt)
    rw [Nat.mul_succ] at this
    omega
  · right; right
    have := Nat.mul_le_mul_left w (Nat.succ_le_of_lt hlt)
    rw [Nat.mul_succ] at this
    omega

/-- And they cover, when they span the other axes and there are enough of them. -/
theorem covers {s : Shape} {n : ℕ} (r : Fin n → Rect s) (a : Fin s.rank) (w : ℕ) (hpos : 0 < w) (ho : ∀ t, (r t).off a = w * t.val)
    (hw : ∀ t, (r t).size a = w) (h1 : ∀ t b, (r t).stride b = 1) (hn : s.size a = w * n)
    (hother : ∀ t b, b ≠ a → (r t).size b = s.size b ∧ (r t).off b = 0) :
    (Finset.univ : Finset (Fin n)).biUnion (fun t => (r t).set) = Finset.univ := by
  refine Finset.eq_univ_iff_forall.mpr fun i => Finset.mem_biUnion.mpr ?_
  have hi : (i a : ℕ) < w * n := hn ▸ (i a).isLt
  refine ⟨⟨(i a : ℕ) / w, Nat.div_lt_of_lt_mul hi⟩, Finset.mem_univ _, (LoadRect.mem_set (r ⟨(i a : ℕ) / w, Nat.div_lt_of_lt_mul hi⟩).toLoadRect).mpr fun b => ?_⟩
  by_cases hb : b = a
  · subst hb
    have d1 := Nat.div_add_mod (i b : ℕ) w
    have d2 := Nat.mod_lt (i b : ℕ) hpos
    refine ⟨(i b : ℕ) % w, (hw _).symm ▸ d2, ?_⟩
    rw [ho, h1]
    dsimp only
    omega
  · obtain ⟨e1, e2⟩ := hother ⟨(i a : ℕ) / w, Nat.div_lt_of_lt_mul hi⟩ b hb
    refine ⟨(i b : ℕ), e1.symm ▸ (i b).isLt, ?_⟩
    rw [e2, h1]
    omega

theorem row_apart (t t' : Fin 2) (h : t ≠ t') : Disjoint (rRow t).set (rRow t').set :=
  apart rRow (0 : Fin 2) 512 (by decide) (fun _ => rfl) (fun _ => rfl) (fun _ => rfl) t t' h
theorem row_covers : (Finset.univ : Finset (Fin 2)).biUnion (fun t => (rRow t).set) = Finset.univ :=
  covers rRow (0 : Fin 2) 512 (by decide) (fun _ => rfl) (fun _ => rfl) (fun _ _ => rfl) rfl fun t b hb => by
    match b, hb with
    | ⟨0, _⟩, hb => exact absurd rfl hb
    | ⟨1, _⟩, hb => exact ⟨rfl, rfl⟩
theorem w1_apart (t t' : Fin 8) (h : t ≠ t') : Disjoint (rW1 t).set (rW1 t').set :=
  apart rW1 (1 : Fin 2) 512 (by decide) (fun _ => rfl) (fun _ => rfl) (fun _ => rfl) t t' h
theorem w1_covers : (Finset.univ : Finset (Fin 8)).biUnion (fun t => (rW1 t).set) = Finset.univ :=
  covers rW1 (1 : Fin 2) 512 (by decide) (fun _ => rfl) (fun _ => rfl) (fun _ _ => rfl) rfl fun t b hb => by
    match b, hb with
    | ⟨0, _⟩, hb => exact ⟨rfl, rfl⟩
    | ⟨1, _⟩, hb => exact absurd rfl hb
theorem w2_apart (t t' : Fin 8) (h : t ≠ t') : Disjoint (rW2 t).set (rW2 t').set :=
  apart rW2 (0 : Fin 2) 512 (by decide) (fun _ => rfl) (fun _ => rfl) (fun _ => rfl) t t' h
theorem w2_covers : (Finset.univ : Finset (Fin 8)).biUnion (fun t => (rW2 t).set) = Finset.univ :=
  covers rW2 (0 : Fin 2) 512 (by decide) (fun _ => rfl) (fun _ => rfl) (fun _ _ => rfl) rfl fun t b hb => by
    match b, hb with
    | ⟨0, _⟩, hb => exact absurd rfl hb
    | ⟨1, _⟩, hb => exact ⟨rfl, rfl⟩
theorem s1_apart (t t' : Fin 2) (h : t ≠ t') : Disjoint (rS1 t).set (rS1 t').set :=
  apart rS1 (0 : Fin 3) 1 (by decide) (fun t => by show t.val = 1 * t.val; omega) (fun _ => rfl) (fun _ => rfl) t t' h
theorem s1_covers : (Finset.univ : Finset (Fin 2)).biUnion (fun t => (rS1 t).set) = Finset.univ :=
  covers rS1 (0 : Fin 3) 1 (by decide) (fun t => by show t.val = 1 * t.val; omega) (fun _ => rfl) (fun _ _ => rfl) rfl fun t b hb => by
    match b, hb with
    | ⟨0, _⟩, hb => exact absurd rfl hb
    | ⟨1, _⟩, hb => exact ⟨rfl, rfl⟩
    | ⟨2, _⟩, hb => exact ⟨rfl, rfl⟩
theorem s2_apart (t t' : Fin 2) (h : t ≠ t') : Disjoint (rS2 t).set (rS2 t').set :=
  apart rS2 (0 : Fin 3) 1 (by decide) (fun t => by show t.val = 1 * t.val; omega) (fun _ => rfl) (fun _ => rfl) t t' h
theorem s2_covers : (Finset.univ : Finset (Fin 2)).biUnion (fun t => (rS2 t).set) = Finset.univ :=
  covers rS2 (0 : Fin 3) 1 (by decide) (fun t => by show t.val = 1 * t.val; omega) (fun _ => rfl) (fun _ _ => rfl) rfl fun t b hb => by
    match b, hb with
    | ⟨0, _⟩, hb => exact absurd rfl hb
    | ⟨1, _⟩, hb => exact ⟨rfl, rfl⟩
    | ⟨2, _⟩, hb => exact ⟨rfl, rfl⟩
theorem slot_apart (t t' : Fin 3) (h : t ≠ t') : Disjoint (rSlot t).set (rSlot t').set :=
  apart rSlot (0 : Fin 3) 1 (by decide) (fun t => by show t.val = 1 * t.val; omega) (fun _ => rfl) (fun _ => rfl) t t' h
theorem slot_covers : (Finset.univ : Finset (Fin 3)).biUnion (fun t => (rSlot t).set) = Finset.univ :=
  covers rSlot (0 : Fin 3) 1 (by decide) (fun t => by show t.val = 1 * t.val; omega) (fun _ => rfl) (fun _ _ => rfl) rfl fun t b hb => by
    match b, hb with
    | ⟨0, _⟩, hb => exact absurd rfl hb
    | ⟨1, _⟩, hb => exact ⟨rfl, rfl⟩
    | ⟨2, _⟩, hb => exact ⟨rfl, rfl⟩

variable [∀ e, Nonempty (Elt F e)] (I : In F) (c : Dev nD)

/-! ## Conjunctions written out -/

theorem all2 (Φ : Fin 2 → sProp 𝕄) : bigSep Finset.univ Φ = iprop(Φ 0 ∗ Φ 1) :=
  bigSep_univ_eq_bigSepL [0, 1] (by decide) (by decide) Φ
theorem all3 (Φ : Fin 3 → sProp 𝕄) : bigSep Finset.univ Φ = iprop(Φ 0 ∗ Φ 1 ∗ Φ 2) :=
  bigSep_univ_eq_bigSepL [0, 1, 2] (by decide) (by decide) Φ
theorem all8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The buffers -/

/-- Both weight matrices, narrowed, in their buffers. -/
def wts : sProp 𝕄 := iprop(owns (c : Thread nD τ) b1M fullShare (I.a16 c) ∗ owns (c : Thread nD τ) b2M fullShare (I.b16 c))

theorem b1_join (X : S1024x4096.Idx → Elt F .bf16) : bigSep Finset.univ (fun k => owns (c : Thread nD τ) (b1T k) fullShare (fun j => X ((rW1 k).emb j)))
    ⊢ (owns (c : Thread nD τ) b1M fullShare X : sProp 𝕄) :=
  owns_of_rects (c : Thread nD τ) b1M fullShare rW1 (fun _ _ => rfl) w1_apart w1_covers X
theorem b2_join (X : S4096x1024.Idx → Elt F .bf16) : bigSep Finset.univ (fun k => owns (c : Thread nD τ) (b2T k) fullShare (fun j => X ((rW2 k).emb j)))
    ⊢ (owns (c : Thread nD τ) b2M fullShare X : sProp 𝕄) :=
  owns_of_rects (c : Thread nD τ) b2M fullShare rW2 (fun _ _ => rfl) w2_apart w2_covers X

theorem wts_intro : bigSep Finset.univ (gotT I c) ⊢ wts I c := by
  have h1 : bigSep Finset.univ (fun k => owns (c : Thread nD τ) (b1T k) fullShare (a16T I c k)) ⊢ (owns (c : Thread nD τ) b1M fullShare (I.a16 c) : sProp 𝕄) := b1_join c (I.a16 c)
  have h2 : bigSep Finset.univ (fun k => owns (c : Thread nD τ) (b2T k) fullShare (b16T I c k)) ⊢ (owns (c : Thread nD τ) b2M fullShare (I.b16 c) : sProp 𝕄) := b2_join c (I.b16 c)
  unfold gotT wts
  exact BIBase.Entails.trans (Entails.of_eq (bigSep_sep _ _ _)) (BIClass.sep_mono h1 h2)

theorem src_split : iprop(owns (c : Thread nD τ) w1M fullShare (I.a c) ∗ owns (c : Thread nD τ) w2M fullShare (I.b c)) ⊢ bigSep Finset.univ (srcT I c) := by
  unfold srcT aT bT
  refine BIBase.Entails.trans ?_ (Entails.of_eq (bigSep_sep _ _ _).symm)
  exact BIClass.sep_mono (owns_rects (c : Thread nD τ) w1M fullShare rW1 (fun _ _ => rfl) w1_apart w1_covers (I.a c))
    (owns_rects (c : Thread nD τ) w2M fullShare rW2 (fun _ _ => rfl) w2_apart w2_covers (I.b c))
theorem src_join : bigSep Finset.univ (srcT I c) ⊢ iprop(owns (c : Thread nD τ) w1M fullShare (I.a c) ∗ owns (c : Thread nD τ) w2M fullShare (I.b c)) := by
  unfold srcT aT bT
  refine (BIBase.Entails.trans (Entails.of_eq (bigSep_sep _ _ _)) ?_)
  exact BIClass.sep_mono (owns_of_rects (c : Thread nD τ) w1M fullShare rW1 (fun _ _ => rfl) w1_apart w1_covers (I.a c))
    (owns_of_rects (c : Thread nD τ) w2M fullShare rW2 (fun _ _ => rfl) w2_apart w2_covers (I.b c))

theorem any_split : iprop(Steps.ownsAny (c : Thread nD τ) b1M ∗ Steps.ownsAny (c : Thread nD τ) b2M) ⊢ (bigSep Finset.univ (anyT c) : sProp 𝕄) := by
  unfold anyT
  refine BIBase.Entails.trans ?_ (Entails.of_eq (bigSep_sep _ _ _).symm)
  exact BIClass.sep_mono (Steps.ownsAny_split (c : Thread nD τ) b1M rW1 (fun _ _ => rfl) w1_apart w1_covers)
    (Steps.ownsAny_split (c : Thread nD τ) b2M rW2 (fun _ _ => rfl) w2_apart w2_covers)

theorem slots_split (m : Memref sig .tc .vmem S3x512x1024 .bf16) : (Steps.ownsAny (c : Thread nD τ) m : sProp 𝕄)
    ⊢ iprop(Steps.ownsAny (c : Thread nD τ) (slot m 0) ∗ Steps.ownsAny (c : Thread nD τ) (slot m 1) ∗ Steps.ownsAny (c : Thread nD τ) (slot m 2)) := by
  refine (Steps.ownsAny_split (c : Thread nD τ) m rSlot (fun _ _ => rfl) slot_apart slot_covers).trans ?_
  rw [all3]
  exact BIClass.sep_mono (Steps.ownsAny_squeeze (c : Thread nD τ) m _ _ _ _).2 (BIClass.sep_mono (Steps.ownsAny_squeeze (c : Thread nD τ) m _ _ _ _).2 (Steps.ownsAny_squeeze (c : Thread nD τ) m _ _ _ _).2)
theorem slots_join (m : Memref sig .tc .vmem S3x512x1024 .bf16) : iprop(Steps.ownsAny (c : Thread nD τ) (slot m 0) ∗ Steps.ownsAny (c : Thread nD τ) (slot m 1) ∗ Steps.ownsAny (c : Thread nD τ) (slot m 2))
    ⊢ (Steps.ownsAny (c : Thread nD τ) m : sProp 𝕄) := by
  refine BIBase.Entails.trans ?_ (Steps.ownsAny_join (c : Thread nD τ) m rSlot (fun _ _ => rfl) slot_apart slot_covers)
  rw [all3]
  exact BIClass.sep_mono (Steps.ownsAny_squeeze (c : Thread nD τ) m _ _ _ _).1 (BIClass.sep_mono (Steps.ownsAny_squeeze (c : Thread nD τ) m _ _ _ _).1 (Steps.ownsAny_squeeze (c : Thread nD τ) m _ _ _ _).1)

theorem stage1_split : (Steps.ownsAny (c : Thread nD τ) s1M : sProp 𝕄) ⊢ iprop(Steps.ownsAny (c : Thread nD τ) (s1T 0) ∗ Steps.ownsAny (c : Thread nD τ) (s1T 1)) := by
  refine (Steps.ownsAny_split (c : Thread nD τ) s1M rS1 (fun _ _ => rfl) s1_apart s1_covers).trans ?_
  rw [all2]
  exact BIClass.sep_mono (Steps.ownsAny_squeeze (c : Thread nD τ) s1M _ _ _ _).2 (Steps.ownsAny_squeeze (c : Thread nD τ) s1M _ _ _ _).2
theorem stage1_join : iprop(Steps.ownsAny (c : Thread nD τ) (s1T 0) ∗ Steps.ownsAny (c : Thread nD τ) (s1T 1)) ⊢ (Steps.ownsAny (c : Thread nD τ) s1M : sProp 𝕄) := by
  refine BIBase.Entails.trans ?_ (Steps.ownsAny_join (c : Thread nD τ) s1M rS1 (fun _ _ => rfl) s1_apart s1_covers)
  rw [all2]
  exact BIClass.sep_mono (Steps.ownsAny_squeeze (c : Thread nD τ) s1M _ _ _ _).1 (Steps.ownsAny_squeeze (c : Thread nD τ) s1M _ _ _ _).1
theorem stage2_split : (Steps.ownsAny (c : Thread nD τ) s2M : sProp 𝕄) ⊢ iprop(Steps.ownsAny (c : Thread nD τ) (s2T 0) ∗ Steps.ownsAny (c : Thread nD τ) (s2T 1)) := by
  refine (Steps.ownsAny_split (c : Thread nD τ) s2M rS2 (fun _ _ => rfl) s2_apart s2_covers).trans ?_
  rw [all2]
  exact BIClass.sep_mono (Steps.ownsAny_squeeze (c : Thread nD τ) s2M _ _ _ _).2 (Steps.ownsAny_squeeze (c : Thread nD τ) s2M _ _ _ _).2
theorem stage2_join : iprop(Steps.ownsAny (c : Thread nD τ) (s2T 0) ∗ Steps.ownsAny (c : Thread nD τ) (s2T 1)) ⊢ (Steps.ownsAny (c : Thread nD τ) s2M : sProp 𝕄) := by
  refine BIBase.Entails.trans ?_ (Steps.ownsAny_join (c : Thread nD τ) s2M rS2 (fun _ _ => rfl) s2_apart s2_covers)
  rw [all2]
  exact BIClass.sep_mono (Steps.ownsAny_squeeze (c : Thread nD τ) s2M _ _ _ _).1 (Steps.ownsAny_squeeze (c : Thread nD τ) s2M _ _ _ _).1

theorem x_split : owns (c : Thread nD τ) xM fullShare (I.x c) ⊢ (iprop(owns (c : Thread nD τ) (xHalf 0) fullShare (I.xh 0 c) ∗ owns (c : Thread nD τ) (xHalf 1) fullShare (I.xh 1 c)) : sProp 𝕄) :=
  (owns_rects (c : Thread nD τ) xM fullShare rRow (fun _ _ => rfl) row_apart row_covers (I.x c)).trans (Entails.of_eq (all2 _))
theorem x_join : iprop(owns (c : Thread nD τ) (xHalf 0) fullShare (I.xh 0 c) ∗ owns (c : Thread nD τ) (xHalf 1) fullShare (I.xh 1 c)) ⊢ (owns (c : Thread nD τ) xM fullShare (I.x c) : sProp 𝕄) :=
  (Entails.of_eq (all2 (F := F) (fun t => owns (c : Thread nD τ) (xHalf t) fullShare (I.xh t c))).symm).trans
    (owns_of_rects (c : Thread nD τ) xM fullShare rRow (fun _ _ => rfl) row_apart row_covers (I.x c))

/-- The device's block of the result. -/
def res : Vec F S1024x1024 .f32 := Steps.glue rRow (fun h => (I.out h c : (rRow h).shape.Idx → Elt F .f32))
theorem res_at (h : Fin 2) (j : S512x1024.Idx) : res I c ((rRow h).emb j) = I.out h c j := Steps.glue_emb rRow row_apart _ h j

theorem o_split : (Steps.ownsAny (c : Thread nD τ) oM : sProp 𝕄) ⊢ iprop(Steps.ownsAny (c : Thread nD τ) (oHalf 0) ∗ Steps.ownsAny (c : Thread nD τ) (oHalf 1)) :=
  (Steps.ownsAny_split (c : Thread nD τ) oM rRow (fun _ _ => rfl) row_apart row_covers).trans (Entails.of_eq (all2 _))
theorem o_join : iprop(owns (c : Thread nD τ) (oHalf 0) fullShare (I.out 0 c) ∗ owns (c : Thread nD τ) (oHalf 1) fullShare (I.out 1 c)) ⊢ (owns (c : Thread nD τ) oM fullShare (res I c) : sProp 𝕄) :=
  (Entails.of_eq (all2 (F := F) (fun t => owns (c : Thread nD τ) (oHalf t) fullShare (I.out t c))).symm).trans
    (Steps.owns_glue (c : Thread nD τ) oM fullShare rRow (fun _ _ => rfl) row_apart row_covers _)

end Cert.KernelIdeal.Fused

end
-- ==== Proof.Phases.lean ====
/-
  The body's phases, one rule each: the stream of the weights, a product, a partial sum sent on, the last sum, sends and drains
  of the four channels.
-/
module

public import proofs.«01_k».proof.Proof.Pieces

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [∀ e, Nonempty (Elt F e)]

local notation "𝕄" => MT nD τ sig Unit (Elt F) ℕ UU ℕ

variable (I : In F) (K : GSem nD τ sig → ℕ) (c : Dev nD)

/-! ## Names -/

theorem rs_src (h : Fin 2) (t : Fin 3) : (rs h).src t = slot (sums h) t := by fin_cases h <;> rfl
theorem rs_msg (h : Fin 2) (t : Fin 3) (d : Dev nD) : I.msg (rs h) t d = I.red h t.val d := by fin_cases h <;> rfl
theorem ag_msg (h : Fin 2) (t : Fin 3) (d : Dev nD) : I.msg (ag h) t d = I.gat h t.val d := by fin_cases h <;> rfl
theorem rs_half (h : Fin 2) : (rs h).half = h := by fin_cases h <;> rfl
theorem ag_half (h : Fin 2) : (ag h).half = h := by fin_cases h <;> rfl

/-- The part of a message's source kept while the message is under way. -/
abbrev kept (h : Ch) (t : Fin 3) : sProp 𝕄 := owns (c : Thread nD τ) (h.src t) fullShare.right (I.msg h t c)

theorem part_split (h : Ch) (t : Fin 3) : owns (c : Thread nD τ) (h.src t) fullShare (I.msg h t c)
    ⊢ (iprop(owns (c : Thread nD τ) (h.src t) half (I.msg h t c) ∗ kept I c h t) : sProp 𝕄) := by
  unfold kept
  exact (owns_halves (Val := Elt F) (c : Thread nD τ) (h.src t) fullShare (I.msg h t c)).1
theorem part_join (h : Ch) (t : Fin 3) : (iprop(owns (c : Thread nD τ) (h.src t) half (I.msg h t c) ∗ kept I c h t) : sProp 𝕄)
    ⊢ owns (c : Thread nD τ) (h.src t) fullShare (I.msg h t c) := by
  unfold kept
  exact (owns_halves (Val := Elt F) (c : Thread nD τ) (h.src t) fullShare (I.msg h t c)).2

/-! ## Sends and drains -/

theorem send_full (h : Ch) (t : Fin 3) (l : List Ob) (Q : PUnit → sProp 𝕄) :
    iprop(ctx2 I K c ∗ tok c h t ∗ Steps.ownsAny (h.to c : Thread nD τ) (slot h.land t) ∗ owns (c : Thread nD τ) (h.src t) fullShare (I.msg h t c)
        ∗ owe c (.msg h t :: l)
        ∗ (credit c (.sd h t) -∗ kept I c h t -∗ owe c l -∗ Q ⟨⟩))
      ⊢ run c (send h t (h.to c)) Q := by
  iintro ⟨#Hctx, Ht, Hd, Hs, HO, HQ⟩
  ihave Hs := (part_split I c h t) $$ Hs
  icases Hs with ⟨Hs, Hk⟩
  iapply (send_step I K c h t l Q)
  isplitr; · iexact Hctx
  isplitl [Ht]; · iexact Ht
  isplitl [Hd]; · iexact Hd
  isplitl [Hs]; · iexact Hs
  isplitl [HO]; · iexact HO
  iintro Hc HO
  iapply HQ $$ Hc Hk HO

/-- A message under way: what its drain needs. -/
def gone (h : Ch) (t : Fin 3) : sProp 𝕄 := iprop(fresh c (.sd h t) ∗ credit c (.sd h t) ∗ kept I c h t)
/-- A message gone: its source is whole again. -/
def back (h : Ch) (t : Fin 3) : sProp 𝕄 := iprop(owns (c : Thread nD τ) (h.src t) fullShare (I.msg h t c) ∗ over c (.sd h t))

theorem drain_full (h : Ch) (t : Fin 3) (l : List Ob) (hl : ∀ o ∈ l, (CI.sd h t).lvl < o.lvl) (Q : PUnit → sProp 𝕄) :
    iprop(ctx I K c ∗ gone I c h t ∗ owe c l ∗ (back I c h t -∗ owe c l -∗ Q ⟨⟩))
      ⊢ run c (drain h t) Q := by
  unfold gone back
  iintro ⟨#Hctx, ⟨Hf, Hc, Hk⟩, HO, HQ⟩
  iapply (drain_step I K c h t l hl Q)
  isplitr; · iexact Hctx
  isplitl [Hf]; · iexact Hf
  isplitl [Hc]; · iexact Hc
  isplitl [HO]; · iexact HO
  iintro Hs Hv HO
  iapply HQ $$ [Hs Hk Hv] HO
  isplitr [Hv]; swap; · iexact Hv
  iapply (part_join I c h t)
  isplitl [Hs] <;> iassumption

/-- Draining a list of messages. -/
def drainL : List (Ch × Fin 3) → P F PUnit
  | [] => pure ⟨⟩
  | p :: ps => do drain p.1 p.2; drainL ps

/-- The messages in the order they are drained. -/
def order : List (Ch × Fin 3) :=
  [(.agA, 0), (.agB, 0), (.agA, 1), (.agB, 1), (.rsA, 0), (.rsB, 0), (.agA, 2), (.agB, 2), (.rsA, 1), (.rsB, 1), (.rsA, 2), (.rsB, 2)]

theorem drainAll_eq : (drainAll : P F PUnit) = drainL order := rfl

/-- A conjunction over a list, closed by nothing. -/
def over_list {α : Type} (Φ : α → sProp 𝕄) : List α → sProp 𝕄
  | [] => iprop(emp)
  | a :: l => iprop(Φ a ∗ over_list Φ l)

theorem drainL_step (ps : List (Ch × Fin 3)) (l : List Ob) (hl : ∀ o ∈ l, 0 < o.lvl) (Q : PUnit → sProp 𝕄) :
    iprop(ctx I K c ∗ over_list (fun p : Ch × Fin 3 => gone I c p.1 p.2) ps ∗ owe c l
        ∗ (over_list (fun p : Ch × Fin 3 => back I c p.1 p.2) ps -∗ owe c l -∗ Q ⟨⟩))
      ⊢ run c (drainL ps) Q := by
  induction ps generalizing Q with
  | nil =>
    unfold drainL run
    simp only [over_list]
    rw [show (pure ⟨⟩ : P F PUnit) = Prog.ret ⟨⟩ from rfl, wp_ret]
    iintro ⟨#Hctx, -, HO, HQ⟩
    imodintro
    iapply HQ $$ [] HO
    iempintro
  | cons p ps ih =>
    unfold drainL over_list
    rw [show run c (do drain p.1 p.2; drainL ps) Q = run c (drain p.1 p.2) (fun _ => run c (drainL ps) Q) from by unfold run; simp only [wp_bind]]
    iintro ⟨#Hctx, ⟨Hg, Hgs⟩, HO, HQ⟩
    iapply (drain_full I K c p.1 p.2 l hl)
    isplitr; · iexact Hctx
    isplitl [Hg]; · iexact Hg
    isplitl [HO]; · iexact HO
    iintro Hb HO
    iapply ih
    isplitr; · iexact Hctx
    isplitl [Hgs]; · iexact Hgs
    isplitl [HO]; · iexact HO
    iintro Hbs HO
    iapply HQ $$ [Hb Hbs] HO
    isplitl [Hb] <;> iassumption

/-! ## Loads and products -/

theorem fetch_slot (m : Memref sig .tc .vmem S3x512x1024 .bf16) (t : Fin 3) (q : PosShare TreeShare) (X : FVec F S512x1024 .bf16) (Q : Vec F S1x512x1024 .bf16 → sProp 𝕄) :
    iprop(owns (c : Thread nD τ) (slot m t) q X ∗ (∀ Y, ⌜flat3 Y = X⌝ -∗ owns (c : Thread nD τ) (slot m t) q X -∗ Q Y))
      ⊢ run c (loadSlot m t) Q := by
  unfold run loadSlot flat3
  exact Steps.load_slot (Val := Elt F) (e := .bf16) 𝒱₀ (c : Thread nD τ) none shapeCasts_S1x512x1024_S512x1024 (hr := fun _ => rfl) (h := squeezes_S1x512x1024_S512x1024) (q := q) (X := (X : S512x1024.Idx → Elt F .bf16))

theorem product_raw (x : FVec F S512x1024 .bf16) (Q : FVec F S512x1024 .f32 → sProp 𝕄) :
    iprop(wts I c ∗ (∀ y, ⌜y = I.prod c x⌝ -∗ wts I c -∗ Q y))
      ⊢ run c (product x) Q := by
  have key : ∀ y, y = I.prod c x → (iprop(wts I c ∗ (∀ y, ⌜y = I.prod c x⌝ -∗ wts I c -∗ Q y)) ⊢ Q y) := fun y hy => by
    iintro ⟨Hw, HQ⟩
    iapply HQ $$ %y %hy Hw
  unfold run product
  rw [wts]
  simp only [wp_bind]
  unfold loadV1 loadV2
  iintro ⟨⟨H1, H2⟩, HQ⟩
  iapply (Steps.load_part 𝒱₀ (c : Thread nD τ) none (q := fullShare) (X := I.a16 c)); isplitl [H1]; · iexact H1
  iintro H1
  iapply (Steps.load_part 𝒱₀ (c : Thread nD τ) none (q := fullShare) (X := I.b16 c)); isplitl [H2]; · iexact H2
  iintro H2
  iapply (Steps.load_part 𝒱₀ (c : Thread nD τ) none (q := fullShare) (X := I.a16 c)); isplitl [H1]; · iexact H1
  iintro H1
  iapply (Steps.load_part 𝒱₀ (c : Thread nD τ) none (q := fullShare) (X := I.b16 c)); isplitl [H2]; · iexact H2
  iintro H2
  iapply (Steps.load_part 𝒱₀ (c : Thread nD τ) none (q := fullShare) (X := I.a16 c)); isplitl [H1]; · iexact H1
  iintro H1
  iapply (Steps.load_part 𝒱₀ (c : Thread nD τ) none (q := fullShare) (X := I.b16 c)); isplitl [H2]; · iexact H2
  iintro H2
  iapply (Steps.load_part 𝒱₀ (c : Thread nD τ) none (q := fullShare) (X := I.a16 c)); isplitl [H1]; · iexact H1
  iintro H1
  iapply (Steps.load_part 𝒱₀ (c : Thread nD τ) none (q := fullShare) (X := I.b16 c)); isplitl [H2]; · iexact H2
  iintro H2
  rw [show (∀ y, (pure y : P F (FVec F S512x1024 .f32)) = Prog.ret y) from fun _ => rfl, wp_ret]
  imodintro
  iapply (key _ ?_) $$ [H1 H2 HQ]
  · rfl
  isplitl [H1 H2]
  · unfold wts; isplitl [H1] <;> iassumption
  iexact HQ

theorem product_step (x : FVec F S512x1024 .bf16) (Q : FVec F S512x1024 .f32 → sProp 𝕄) :
    iprop(wts I c ∗ (wts I c -∗ Q (I.prod c x))) ⊢ run c (product x) Q := by
  iintro ⟨Hw, HQ⟩
  iapply (product_raw I c x Q)
  isplitl [Hw]; · iexact Hw
  iintro %y %hy
  rw [hy]
  iexact HQ

theorem putSum_step (h : Fin 2) (t : Fin 3) (v : FVec F S512x1024 .f32) (Q : PUnit → sProp 𝕄) :
    iprop(Steps.ownsAny (c : Thread nD τ) (slot (sums h) t) ∗ (owns (c : Thread nD τ) (slot (sums h) t) fullShare (truncf .bf16 v bitsLt_bf16_f32 : FVec F S512x1024 .bf16) -∗ Q ⟨⟩))
      ⊢ run c (putSum h t v) Q := by
  unfold putSum
  rw [show run c (do let _ ← loadSlot (sums h) t; Prog.lift (.store (sums h) (rSlot t) (wide (truncf .bf16 v bitsLt_bf16_f32)) Finset.univ (View.stores_vmem h_S1x512x1024 (sums_packed h t) (fun _ => rfl)) (.inl rfl))) Q
    = run c (loadSlot (sums h) t) (fun _ => run c (Prog.lift (.store (sums h) (rSlot t) (wide (truncf .bf16 v bitsLt_bf16_f32)) Finset.univ (View.stores_vmem h_S1x512x1024 (sums_packed h t) (fun _ => rfl)) (.inl rfl))) Q) from by
      unfold run; simp only [wp_bind]]
  unfold Steps.ownsAny
  iintro ⟨⟨%X, H⟩, HQ⟩
  iapply (fetch_slot c (sums h) t fullShare X)
  isplitl [H]; · iexact H
  iintro %Y - H
  unfold run
  iapply (Steps.store_slot 𝒱₀ (c : Thread nD τ) none shapeCasts_S1x512x1024_S512x1024 (hr := fun _ => rfl) (h := squeezes_S1x512x1024_S512x1024) (X := X))
  isplitl [H]; · iexact H
  iintro H
  iapply HQ
  rw [show (shapeCast S512x1024 (wide (truncf .bf16 v bitsLt_bf16_f32) : S1x512x1024.Idx → Elt F .bf16) shapeCasts_S1x512x1024_S512x1024 : S512x1024.Idx → Elt F .bf16)
    = (truncf .bf16 v bitsLt_bf16_f32 : FVec F S512x1024 .bf16) from Steps.shapeCast_back _ _ _]
  iexact H

/-! ## The partial sums -/

theorem sent_sum (h : Fin 2) (t : Fin 3) (l : List Ob) (v : FVec F S512x1024 .f32) (hv : (truncf .bf16 v bitsLt_bf16_f32 : FVec F S512x1024 .bf16) = I.red h t.val c) (Q : PUnit → sProp 𝕄) :
    iprop(ctx2 I K c ∗ tok c (rs h) t ∗ Steps.ownsAny (nb h c : Thread nD τ) (slot (rs h).land t) ∗ Steps.ownsAny (c : Thread nD τ) (slot (sums h) t) ∗ owe c (.msg (rs h) t :: l)
        ∗ (credit c (.sd (rs h) t) -∗ kept I c (rs h) t -∗ owe c l -∗ Q ⟨⟩))
      ⊢ run c (do putSum h t v; send (rs h) t (nb h c)) Q := by
  rw [show run c (do putSum h t v; send (rs h) t (nb h c)) Q = run c (putSum h t v) (fun _ => run c (send (rs h) t (nb h c)) Q) from by unfold run; simp only [wp_bind]]
  iintro ⟨#Hctx, Ht, Hd, Hs, HO, HQ⟩
  iapply (putSum_step c h t v)
  isplitl [Hs]; · iexact Hs
  rw [hv]
  iintro Hs
  have e : (rs h).to c = nb h c := by unfold Ch.to; rw [rs_half]
  rw [← e]
  iapply (send_full I K c (rs h) t l Q)
  isplitr; · iexact Hctx
  isplitl [Ht]; · iexact Ht
  isplitl [Hd]; · iexact Hd
  isplitl [Hs]; · rw [rs_src, rs_msg]; iexact Hs
  isplitl [HO]; · iexact HO
  iexact HQ

theorem reduce0_step (h : Fin 2) (l : List Ob) (q : PosShare TreeShare) (Q : PUnit → sProp 𝕄) :
    iprop(ctx2 I K c ∗ tok c (rs h) 0 ∗ Steps.ownsAny (nb h c : Thread nD τ) (slot (rs h).land 0) ∗ Steps.ownsAny (c : Thread nD τ) (slot (sums h) 0)
        ∗ owns (c : Thread nD τ) (slot (ag h).land 0) q (I.gat h 1 c) ∗ wts I c ∗ owe c (.msg (rs h) 0 :: l)
        ∗ (credit c (.sd (rs h) 0) -∗ kept I c (rs h) 0 -∗ owns (c : Thread nD τ) (slot (ag h).land 0) q (I.gat h 1 c) -∗ wts I c -∗ owe c l -∗ Q ⟨⟩))
      ⊢ run c (reduce0 h (nb h c)) Q := by
  unfold reduce0
  rw [show run c (do let v ← loadSlot (ag h).land 0; let s ← product (flat3 v); putSum h 0 s; send (rs h) 0 (nb h c)) Q
    = run c (loadSlot (ag h).land 0) (fun v => run c (product (flat3 v)) (fun s => run c (do putSum h 0 s; send (rs h) 0 (nb h c)) Q)) from by
      unfold run; simp only [wp_bind]]
  iintro ⟨#Hctx, Ht, Hd, Hs, Hg, Hw, HO, HQ⟩
  iapply (fetch_slot c (ag h).land 0 q (I.gat h 1 c))
  isplitl [Hg]; · iexact Hg
  iintro %Y %hY Hg
  rw [hY]
  iapply (product_step I c)
  isplitl [Hw]; · iexact Hw
  iintro Hw
  iapply (sent_sum I K c h 0 l (I.prod c (I.gat h 1 c)) rfl)
  isplitr; · iexact Hctx
  isplitl [Ht]; · iexact Ht
  isplitl [Hd]; · iexact Hd
  isplitl [Hs]; · iexact Hs
  isplitl [HO]; · iexact HO
  iintro Hc Hk HO
  iapply HQ $$ Hc Hk Hg Hw HO

theorem recv_rs (h : Fin 2) (t : Fin 3) : owns (c : Thread nD τ) (slot (rs h).land t) fullShare (I.msg (rs h) t ((rs h).from c))
    ⊢ (owns (c : Thread nD τ) (slot (rs h).land t) fullShare (I.red h t.val (nb (opp h) c)) : sProp 𝕄) := by
  unfold Ch.from
  rw [rs_msg, rs_half]

theorem reduce_step (h : Fin 2) (t' t : Fin 3) (ht : t.val = t'.val + 1) (l : List Ob) (hl : ∀ o ∈ Ob.msg (rs h) t :: l, (CI.rv (rs h) t').lvl < o.lvl) (q : PosShare TreeShare) (Q : PUnit → sProp 𝕄) :
    iprop(ctx2 I K c ∗ tok c (rs h) t ∗ Steps.ownsAny (nb h c : Thread nD τ) (slot (rs h).land t) ∗ Steps.ownsAny (c : Thread nD τ) (slot (sums h) t)
        ∗ owns (c : Thread nD τ) (slot (ag h).land t) q (I.gat h (t.val + 1) c) ∗ wts I c ∗ fresh c (.rv (rs h) t') ∗ credit c (.rv (rs h) t') ∗ owe c (.msg (rs h) t :: l)
        ∗ (credit c (.sd (rs h) t) -∗ kept I c (rs h) t -∗ owns (c : Thread nD τ) (slot (ag h).land t) q (I.gat h (t.val + 1) c) -∗ wts I c
            -∗ over c (.rv (rs h) t') -∗ Steps.ownsAny (c : Thread nD τ) (slot (rs h).land t') -∗ owe c l -∗ Q ⟨⟩))
      ⊢ run c (reduce h t' t (nb h c)) Q := by
  unfold reduce
  rw [show run c (do let v ← loadSlot (ag h).land t; let s ← product (flat3 v); recv (rs h) t'; let w ← loadSlot (rs h).land t'
                     putSum h t (addf s (extf .f32 (flat3 w) bitsLt_bf16_f32)); send (rs h) t (nb h c)) Q
    = run c (loadSlot (ag h).land t) (fun v => run c (product (flat3 v)) (fun s => run c (recv (rs h) t') (fun _ => run c (loadSlot (rs h).land t') (fun w =>
        run c (do putSum h t (addf s (extf .f32 (flat3 w) bitsLt_bf16_f32)); send (rs h) t (nb h c)) Q)))) from by
      unfold run; simp only [wp_bind]]
  iintro ⟨#Hctx, Ht, Hd, Hs, Hg, Hw, Hf, Hcr, HO, HQ⟩
  ihave #Hctx1 := (ctx2_ctx I K c) $$ Hctx
  iapply (fetch_slot c (ag h).land t q (I.gat h (t.val + 1) c))
  isplitl [Hg]; · iexact Hg
  iintro %Y %hY Hg
  rw [hY]
  iapply (product_step I c)
  isplitl [Hw]; · iexact Hw
  iintro Hw
  iapply (recv_step I K c (rs h) t' _ hl)
  isplitr; · iexact Hctx1
  isplitl [Hf]; · iexact Hf
  isplitl [Hcr]; · iexact Hcr
  isplitl [HO]; · iexact HO
  iintro Hr Hv HO
  ihave Hr := (recv_rs I c h t') $$ Hr
  iapply (fetch_slot c (rs h).land t' fullShare (I.red h t'.val (nb (opp h) c)))
  isplitl [Hr]; · iexact Hr
  iintro %Z %hZ Hr
  rw [hZ]
  iapply (sent_sum I K c h t l _ (by rw [ht]; rfl))
  isplitr; · iexact Hctx
  isplitl [Ht]; · iexact Ht
  isplitl [Hd]; · iexact Hd
  isplitl [Hs]; · iexact Hs
  isplitl [HO]; · iexact HO
  iintro Hc Hk HO
  iapply HQ $$ Hc Hk Hg Hw Hv [Hr] HO
  unfold Steps.ownsAny
  iexists _; iexact Hr

/-- A device's own part of a half of its block. -/
def own (h : Fin 2) : FVec F S512x1024 .f32 := match h with | 0 => I.prod8 c (I.xh 0 c) | 1 => I.prod c (I.xh 1 c)

theorem finish_step (h : Fin 2) (l : List Ob) (hl : ∀ o ∈ l, (CI.rv (rs h) 2).lvl < o.lvl) (Q : PUnit → sProp 𝕄) :
    iprop(ctx I K c ∗ fresh c (.rv (rs h) 2) ∗ credit c (.rv (rs h) 2) ∗ owns (c : Thread nD τ) (oHalf h) fullShare (own I c h) ∗ owe c l
        ∗ (over c (.rv (rs h) 2) -∗ Steps.ownsAny (c : Thread nD τ) (slot (rs h).land 2) -∗ owns (c : Thread nD τ) (oHalf h) fullShare (I.out h c) -∗ owe c l -∗ Q ⟨⟩))
      ⊢ run c (finish h) Q := by
  unfold finish
  rw [show run c (do recv (rs h) 2; let o ← loadO h; let w ← loadSlot (rs h).land 2; let _ ← loadO h
                     storeO h (addf (shapeCast S512x1024 o shapeCasts_S512x1024_S512x1024 : FVec F S512x1024 .f32) (extf .f32 (flat3 w) bitsLt_bf16_f32))) Q
    = run c (recv (rs h) 2) (fun _ => run c (loadO h) (fun o => run c (loadSlot (rs h).land 2) (fun w => run c (loadO h) (fun _ =>
        run c (storeO h (addf (shapeCast S512x1024 o shapeCasts_S512x1024_S512x1024 : FVec F S512x1024 .f32) (extf .f32 (flat3 w) bitsLt_bf16_f32))) Q)))) from by
      unfold run; simp only [wp_bind]]
  iintro ⟨#Hctx, Hf, Hcr, Ho, HO, HQ⟩
  iapply (recv_step I K c (rs h) 2 l hl)
  isplitr; · iexact Hctx
  isplitl [Hf]; · iexact Hf
  isplitl [Hcr]; · iexact Hcr
  isplitl [HO]; · iexact HO
  iintro Hr Hv HO
  ihave Hr := (recv_rs I c h 2) $$ Hr
  unfold loadO storeO
  iapply (Steps.load_slice 𝒱₀ (c : Thread nD τ) none (hr := fun _ => rfl) (q := fullShare) (X := own I c h))
  isplitl [Ho]; · iexact Ho
  iintro Ho
  iapply (fetch_slot c (rs h).land 2 fullShare (I.red h 2 (nb (opp h) c)))
  isplitl [Hr]; · iexact Hr
  iintro %Z %hZ Hr
  rw [hZ]
  iapply (Steps.load_slice 𝒱₀ (c : Thread nD τ) none (hr := fun _ => rfl) (q := fullShare) (X := own I c h))
  isplitl [Ho]; · iexact Ho
  iintro Ho
  iapply (Steps.store_slice 𝒱₀ (c : Thread nD τ) none (hr := fun _ => rfl) (X := own I c h))
  isplitl [Ho]; · iexact Ho
  rw [Steps.shapeCast_same, show (addf (own I c h) (extf .f32 (I.red h 2 (nb (opp h) c)) bitsLt_bf16_f32) : FVec F S512x1024 .f32) = I.out h c from by fin_cases h <;> rfl]
  iintro Ho
  iapply HQ $$ Hv [Hr] Ho HO
  unfold Steps.ownsAny
  iexists _; iexact Hr

theorem ownLower_step (q : PosShare TreeShare) (Q : PUnit → sProp 𝕄) :
    iprop(owns (c : Thread nD τ) (xHalf 1) q (I.xh 1 c) ∗ wts I c ∗ Steps.ownsAny (c : Thread nD τ) (oHalf 1)
        ∗ (owns (c : Thread nD τ) (xHalf 1) q (I.xh 1 c) -∗ wts I c -∗ owns (c : Thread nD τ) (oHalf 1) fullShare (own I c 1) -∗ Q ⟨⟩))
      ⊢ run c ownLower Q := by
  unfold ownLower
  rw [show run c (do let x1 ← loadX 1; let s ← product (flat x1); let _ ← loadO 1; storeO 1 s) Q
    = run c (loadX 1) (fun x1 => run c (product (flat x1)) (fun s => run c (loadO 1) (fun _ => run c (storeO 1 s) Q))) from by
      unfold run; simp only [wp_bind]]
  unfold Steps.ownsAny
  iintro ⟨Hx, Hw, ⟨%X, Ho⟩, HQ⟩
  unfold loadX loadO storeO
  iapply (Steps.load_slice 𝒱₀ (c : Thread nD τ) none (hr := fun _ => rfl) (q := q) (X := I.xh 1 c))
  isplitl [Hx]; · iexact Hx
  iintro Hx
  rw [show flat (I.xh 1 c) = I.xh 1 c from Steps.shapeCast_same _ _]
  iapply (product_step I c)
  isplitl [Hw]; · iexact Hw
  iintro Hw
  iapply (Steps.load_slice 𝒱₀ (c : Thread nD τ) none (hr := fun _ => rfl) (q := fullShare) (X := X))
  isplitl [Ho]; · iexact Ho
  iintro Ho
  iapply (Steps.store_slice 𝒱₀ (c : Thread nD τ) none (hr := fun _ => rfl) (X := X))
  isplitl [Ho]; · iexact Ho
  iintro Ho
  iapply HQ $$ Hx Hw [Ho]
  iexact Ho

/-! ## The stream of the weights -/

theorem streamAll_step (l : List Ob) (hl : ∀ o ∈ l, 0 < o.lvl) (q : PosShare TreeShare) (Q : PUnit → sProp 𝕄) :
    iprop(ctx I K c ∗ bigSep Finset.univ (srcT I c) ∗ bigSep Finset.univ (anyT c) ∗ freeT c 0 0 2 ∗ freeT c 1 1 3
        ∗ owns (c : Thread nD τ) (xHalf 0) q (I.xh 0 c) ∗ Steps.ownsAny (c : Thread nD τ) (oHalf 0) ∗ owe c l
        ∗ (bigSep Finset.univ (srcT I c) -∗ wts I c -∗ freeT c 0 0 2 -∗ freeT c 1 1 3
            -∗ owns (c : Thread nD τ) (xHalf 0) q (I.xh 0 c) -∗ owns (c : Thread nD τ) (oHalf 0) fullShare (own I c 0) -∗ owe c l -∗ Q ⟨⟩))
      ⊢ run c streamAll Q := by
  have w : bigSep Finset.univ (gotT I c) ⊢ wts I c := wts_intro I c
  rw [all8] at w
  unfold streamAll
  rw [show run c (do
        let x0 ← loadX 0
        let x : FVec F S512x1024 .bf16 := flat x0
        start1 0
        start2 0
        start1 1
        start2 1
        let c0 ← stream 0 2 id x
        let c1 ← stream 1 3 (addf c0) x
        let c2 ← stream 2 4 (addf c1) x
        let c3 ← stream 3 5 (addf c2) x
        let c4 ← stream 4 6 (addf c3) x
        let c5 ← stream 5 7 (addf c4) x
        let c6 ← streamLast 6 c5 x
        let c7 ← streamLast 7 c6 x
        let _ ← loadO 0
        storeO 0 c7) Q
    = run c (loadX 0) (fun x0 => run c (do start1 0; start2 0) (fun _ => run c (do start1 1; start2 1) (fun _ =>
        run c (stream 0 2 id (flat x0)) (fun c0 => run c (stream 1 3 (addf c0) (flat x0)) (fun c1 => run c (stream 2 4 (addf c1) (flat x0)) (fun c2 =>
        run c (stream 3 5 (addf c2) (flat x0)) (fun c3 => run c (stream 4 6 (addf c3) (flat x0)) (fun c4 => run c (stream 5 7 (addf c4) (flat x0)) (fun c5 =>
        run c (streamLast 6 c5 (flat x0)) (fun c6 => run c (streamLast 7 c6 (flat x0)) (fun c7 =>
        run c (loadO 0) (fun _ => run c (storeO 0 c7) Q)))))))))))) from by
      unfold run; simp only [wp_bind]]
  rw [all8, all8]
  unfold Steps.ownsAny
  iintro ⟨#Hctx, ⟨S0, S1, S2, S3, S4, S5, S6, S7⟩, ⟨A0, A1, A2, A3, A4, A5, A6, A7⟩, Hf0, Hf1, Hx, ⟨%X, Ho⟩, HO, HQ⟩
  unfold loadX loadO storeO
  iapply (Steps.load_slice 𝒱₀ (c : Thread nD τ) none (hr := fun _ => rfl) (q := q) (X := I.xh 0 c))
  isplitl [Hx]; · iexact Hx
  iintro Hx
  rw [show flat (I.xh 0 c) = I.xh 0 c from Steps.shapeCast_same _ _]
  iapply (start_step I c 0)
  isplitl [S0]; · iexact S0
  isplitl [Hf0]; · iexact Hf0
  iintro F0
  iapply (start_step I c 1)
  isplitl [S1]; · iexact S1
  isplitl [Hf1]; · iexact Hf1
  iintro F1
  iapply (stream_step I K c 0 2 rfl rfl rfl id (I.xh 0 c) l hl)
  isplitr; · iexact Hctx
  isplitl [F0]; · iexact F0
  isplitl [A0]; · iexact A0
  isplitl [S2]; · iexact S2
  isplitl [HO]; · iexact HO
  iintro S0 G0 F2 HO
  iapply (stream_step I K c 1 3 rfl rfl rfl _ (I.xh 0 c) l hl)
  isplitr; · iexact Hctx
  isplitl [F1]; · iexact F1
  isplitl [A1]; · iexact A1
  isplitl [S3]; · iexact S3
  isplitl [HO]; · iexact HO
  iintro S1 G1 F3 HO
  iapply (stream_step I K c 2 4 rfl rfl rfl _ (I.xh 0 c) l hl)
  isplitr; · iexact Hctx
  isplitl [F2]; · iexact F2
  isplitl [A2]; · iexact A2
  isplitl [S4]; · iexact S4
  isplitl [HO]; · iexact HO
  iintro S2 G2 F4 HO
  iapply (stream_step I K c 3 5 rfl rfl rfl _ (I.xh 0 c) l hl)
  isplitr; · iexact Hctx
  isplitl [F3]; · iexact F3
  isplitl [A3]; · iexact A3
  isplitl [S5]; · iexact S5
  isplitl [HO]; · iexact HO
  iintro S3 G3 F5 HO
  iapply (stream_step I K c 4 6 rfl rfl rfl _ (I.xh 0 c) l hl)
  isplitr; · iexact Hctx
  isplitl [F4]; · iexact F4
  isplitl [A4]; · iexact A4
  isplitl [S6]; · iexact S6
  isplitl [HO]; · iexact HO
  iintro S4 G4 F6 HO
  iapply (stream_step I K c 5 7 rfl rfl rfl _ (I.xh 0 c) l hl)
  isplitr; · iexact Hctx
  isplitl [F5]; · iexact F5
  isplitl [A5]; · iexact A5
  isplitl [S7]; · iexact S7
  isplitl [HO]; · iexact HO
  iintro S5 G5 F7 HO
  iapply (streamLast_step I K c 6 _ (I.xh 0 c) l hl)
  isplitr; · iexact Hctx
  isplitl [F6]; · iexact F6
  isplitl [A6]; · iexact A6
  isplitl [HO]; · iexact HO
  iintro S6 G6 Hf0 HO
  iapply (streamLast_step I K c 7 _ (I.xh 0 c) l hl)
  isplitr; · iexact Hctx
  isplitl [F7]; · iexact F7
  isplitl [A7]; · iexact A7
  isplitl [HO]; · iexact HO
  iintro S7 G7 Hf1 HO
  iapply (Steps.load_slice 𝒱₀ (c : Thread nD τ) none (hr := fun _ => rfl) (q := fullShare) (X := X))
  isplitl [Ho]; · iexact Ho
  iintro Ho
  iapply (Steps.store_slice 𝒱₀ (c : Thread nD τ) none (hr := fun _ => rfl) (X := X))
  isplitl [Ho]; · iexact Ho
  iintro Ho
  iapply HQ $$ [S0 S1 S2 S3 S4 S5 S6 S7] [G0 G1 G2 G3 G4 G5 G6 G7] [Hf0] [Hf1] Hx [Ho] HO
  · iframe
  · iapply w
    iframe
  · iexact Hf0
  · iexact Hf1
  · iexact Ho

end Cert.KernelIdeal.Fused

end
-- ==== Proof.Body.lean ====
/-
  The whole body of a device: the phases in their order, from what the device holds at entry to what it holds at exit.
-/
module

public import proofs.«01_k».proof.Proof.Phases

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [∀ e, Nonempty (Elt F e)]

local notation "𝕄" => MT nD τ sig Unit (Elt F) ℕ UU ℕ

variable (I : In F) (K : GSem nD τ sig → ℕ) (c : Dev nD)

theorem named_left : named c 0 = nb 1 c ∧ named c 3 = nb 1 c ∧ named c 5 = nb 1 c ∧ named c 7 = nb 1 c ∧ named c 9 = nb 1 c
    ∧ named c 11 = nb 1 c ∧ named c 13 = nb 1 c ∧ named c 14 = nb 1 c := by revert c; decide
theorem named_right : named c 1 = nb 0 c ∧ named c 2 = nb 0 c ∧ named c 4 = nb 0 c ∧ named c 6 = nb 0 c ∧ named c 8 = nb 0 c
    ∧ named c 10 = nb 0 c ∧ named c 12 = nb 0 c ∧ named c 15 = nb 0 c := by revert c; decide

/-- A send, the receiver named otherwise. -/
theorem send_at (h : Ch) (t : Fin 3) (d : Dev nD) (hd : h.to c = d) (l : List Ob) (Q : PUnit → sProp 𝕄) :
    iprop(ctx2 I K c ∗ tok c h t ∗ Steps.ownsAny (d : Thread nD τ) (slot h.land t) ∗ owns (c : Thread nD τ) (h.src t) fullShare (I.msg h t c)
        ∗ owe c (.msg h t :: l)
        ∗ (credit c (.sd h t) -∗ kept I c h t -∗ owe c l -∗ Q ⟨⟩))
      ⊢ run c (send h t d) Q := by
  subst hd
  exact send_full I K c h t l Q

/-- What a device starts from. -/
def pre : sProp 𝕄 :=
  iprop((dutyTok ER (cell (nb 1 c) .bar) 0 0 ∗ dutyTok ER (cell (nb 0 c) .bar) 0 1 ∗ dutyTok ER (cell (nb 1 c) .ex) 0 0 ∗ dutyTok ER (cell (nb 0 c) .ex) 0 1)
    ∗ (fresh c .bar ∗ credit c .bar ∗ fresh c .ex ∗ credit c .ex)
    ∗ over_list (fun p : Ch × Fin 3 => tok c p.1 p.2) order ∗ over_list (fun p : Ch × Fin 3 => fresh c (.sd p.1 p.2)) order
    ∗ over_list (fun p : Ch × Fin 3 => fresh c (.rv p.1 p.2)) order ∗ over_list (fun p : Ch × Fin 3 => credit c (.rv p.1 p.2)) order
    ∗ owe c allObs
    ∗ (landAny c .agA ∗ landAny c .agB ∗ landAny c .rsA ∗ landAny c .rsB)
    ∗ (Steps.ownsAny (c : Thread nD τ) (slot (sums 0) 0) ∗ Steps.ownsAny (c : Thread nD τ) (slot (sums 0) 1) ∗ Steps.ownsAny (c : Thread nD τ) (slot (sums 0) 2))
    ∗ (Steps.ownsAny (c : Thread nD τ) (slot (sums 1) 0) ∗ Steps.ownsAny (c : Thread nD τ) (slot (sums 1) 1) ∗ Steps.ownsAny (c : Thread nD τ) (slot (sums 1) 2))
    ∗ bigSep Finset.univ (srcT I c) ∗ bigSep Finset.univ (anyT c) ∗ (freeT c 0 0 2 ∗ freeT c 1 1 3)
    ∗ (owns (c : Thread nD τ) (xHalf 0) fullShare (I.xh 0 c) ∗ owns (c : Thread nD τ) (xHalf 1) fullShare (I.xh 1 c))
    ∗ (Steps.ownsAny (c : Thread nD τ) (oHalf 0) ∗ Steps.ownsAny (c : Thread nD τ) (oHalf 1)))

/-- What a device ends with. -/
def post : sProp 𝕄 :=
  iprop((over c .bar ∗ over c .ex)
    ∗ over_list (fun p : Ch × Fin 3 => over c (.sd p.1 p.2)) order ∗ over_list (fun p : Ch × Fin 3 => over c (.rv p.1 p.2)) order
    ∗ owe c []
    ∗ (landAny c .agA ∗ landAny c .agB ∗ landAny c .rsA ∗ landAny c .rsB)
    ∗ (Steps.ownsAny (c : Thread nD τ) (slot (sums 0) 0) ∗ Steps.ownsAny (c : Thread nD τ) (slot (sums 0) 1) ∗ Steps.ownsAny (c : Thread nD τ) (slot (sums 0) 2))
    ∗ (Steps.ownsAny (c : Thread nD τ) (slot (sums 1) 0) ∗ Steps.ownsAny (c : Thread nD τ) (slot (sums 1) 1) ∗ Steps.ownsAny (c : Thread nD τ) (slot (sums 1) 2))
    ∗ bigSep Finset.univ (srcT I c) ∗ wts I c ∗ (freeT c 0 0 2 ∗ freeT c 1 1 3)
    ∗ (owns (c : Thread nD τ) (xHalf 0) fullShare (I.xh 0 c) ∗ owns (c : Thread nD τ) (xHalf 1) fullShare (I.xh 1 c))
    ∗ (owns (c : Thread nD τ) (oHalf 0) fullShare (I.out 0 c) ∗ owns (c : Thread nD τ) (oHalf 1) fullShare (I.out 1 c)))

theorem body_step (Q : PUnit → sProp 𝕄) :
    iprop(ctx I K c ∗ pre I c ∗ (post I c -∗ Q ⟨⟩)) ⊢ run c (bodyOn (named c)) Q := by
  obtain ⟨l0, l3, l5, l7, l9, l11, l13, l14⟩ := named_left c
  obtain ⟨r1, r2, r4, r6, r8, r10, r12, r15⟩ := named_right c
  unfold bodyOn run
  simp only [wp_bind]
  rw [l0, l3, l5, l7, l9, l11, l13, l14, r1, r2, r4, r6, r8, r10, r12, r15]
  unfold pre
  simp only [over_list, order]
  iintro ⟨#Hctx, ⟨⟨db1, db0, de1, de0⟩, ⟨fb, cb, fe, ce⟩, ⟨tA0, tB0, tA1, tB1, tR0, tS0, tA2, tB2, tR1, tS1, tR2, tS2, -⟩, ⟨fA0, fB0, fA1, fB1, fR0, fS0, fA2, fB2, fR1, fS1, fR2, fS2, -⟩, ⟨gA0, gB0, gA1, gB1, gR0, gS0, gA2, gB2, gR1, gS1, gR2, gS2, -⟩, ⟨cA0, cB0, cA1, cB1, cR0, cS0, cA2, cB2, cR1, cS1, cR2, cS2, -⟩, HO, ⟨lA, lB, lR, lS⟩, ⟨sR0, sR1, sR2⟩, ⟨sS0, sS1, sS2⟩, Hsrc, Hany, ⟨Hf0, Hf1⟩, ⟨x0, x1⟩, ⟨o0, o1⟩⟩, HQ⟩
  iapply (enter_step I K c (allObs.drop 2) (by decide))
  isplitr; · iexact Hctx
  isplitl [db1]; · iexact db1
  isplitl [db0]; · iexact db0
  isplitl [lA]; · iexact lA
  isplitl [lR]; · iexact lR
  isplitl [lB]; · iexact lB
  isplitl [lS]; · iexact lS
  isplitl [fb]; · iexact fb
  isplitl [cb]; · iexact cb
  isplitl [HO]; · iexact HO
  iintro #Hctx2 ⟨dA0, dA1, dA2⟩ ⟨dR0, dR1, dR2⟩ ⟨dB0, dB1, dB2⟩ ⟨dS0, dS1, dS2⟩ vb HO
  iapply (send_at I K c .agA 0 _ rfl (allObs.drop 3))
  isplitr; · iexact Hctx2
  isplitl [tA0]; · iexact tA0
  isplitl [dA0]; · iexact dA0
  isplitl [x0]; · iexact x0
  isplitl [HO]; · iexact HO
  iintro sA0 kA0 HO
  iapply (send_at I K c .agB 0 _ rfl (allObs.drop 4))
  isplitr; · iexact Hctx2
  isplitl [tB0]; · iexact tB0
  isplitl [dB0]; · iexact dB0
  isplitl [x1]; · iexact x1
  isplitl [HO]; · iexact HO
  iintro sB0 kB0 HO
  iapply (streamAll_step I K c (allObs.drop 4) (by decide) fullShare.right)
  isplitr; · iexact Hctx
  isplitl [Hsrc]; · iexact Hsrc
  isplitl [Hany]; · iexact Hany
  isplitl [Hf0]; · iexact Hf0
  isplitl [Hf1]; · iexact Hf1
  isplitl [kA0]; · iexact kA0
  isplitl [o0]; · iexact o0
  isplitl [HO]; · iexact HO
  iintro Hsrc Hw Hf0 Hf1 kA0 o0 HO
  iapply (recv_step I K c .agA 0 (allObs.drop 4) (by decide))
  isplitr; · iexact Hctx
  isplitl [gA0]; · iexact gA0
  isplitl [cA0]; · iexact cA0
  isplitl [HO]; · iexact HO
  iintro mA0 vA0 HO
  iapply (recv_step I K c .agB 0 (allObs.drop 4) (by decide))
  isplitr; · iexact Hctx
  isplitl [gB0]; · iexact gB0
  isplitl [cB0]; · iexact cB0
  isplitl [HO]; · iexact HO
  iintro mB0 vB0 HO
  iapply (send_at I K c .agA 1 _ rfl (allObs.drop 5))
  isplitr; · iexact Hctx2
  isplitl [tA1]; · iexact tA1
  isplitl [dA1]; · iexact dA1
  isplitl [mA0]; · iexact mA0
  isplitl [HO]; · iexact HO
  iintro sA1 kA1 HO
  iapply (send_at I K c .agB 1 _ rfl (allObs.drop 6))
  isplitr; · iexact Hctx2
  isplitl [tB1]; · iexact tB1
  isplitl [dB1]; · iexact dB1
  isplitl [mB0]; · iexact mB0
  isplitl [HO]; · iexact HO
  iintro sB1 kB1 HO
  iapply (reduce0_step I K c 0 (allObs.drop 7) fullShare.right)
  isplitr; · iexact Hctx2
  isplitl [tR0]; · iexact tR0
  isplitl [dR0]; · iexact dR0
  isplitl [sR0]; · iexact sR0
  isplitl [kA1]; · iexact kA1
  isplitl [Hw]; · iexact Hw
  isplitl [HO]; · iexact HO
  iintro sR0 kR0 kA1 Hw HO
  iapply (reduce0_step I K c 1 (allObs.drop 8) fullShare.right)
  isplitr; · iexact Hctx2
  isplitl [tS0]; · iexact tS0
  isplitl [dS0]; · iexact dS0
  isplitl [sS0]; · iexact sS0
  isplitl [kB1]; · iexact kB1
  isplitl [Hw]; · iexact Hw
  isplitl [HO]; · iexact HO
  iintro sS0 kS0 kB1 Hw HO
  iapply (recv_step I K c .agA 1 (allObs.drop 8) (by decide))
  isplitr; · iexact Hctx
  isplitl [gA1]; · iexact gA1
  isplitl [cA1]; · iexact cA1
  isplitl [HO]; · iexact HO
  iintro mA1 vA1 HO
  iapply (recv_step I K c .agB 1 (allObs.drop 8) (by decide))
  isplitr; · iexact Hctx
  isplitl [gB1]; · iexact gB1
  isplitl [cB1]; · iexact cB1
  isplitl [HO]; · iexact HO
  iintro mB1 vB1 HO
  iapply (send_at I K c .agA 2 _ rfl (allObs.drop 9))
  isplitr; · iexact Hctx2
  isplitl [tA2]; · iexact tA2
  isplitl [dA2]; · iexact dA2
  isplitl [mA1]; · iexact mA1
  isplitl [HO]; · iexact HO
  iintro sA2 kA2 HO
  iapply (send_at I K c .agB 2 _ rfl (allObs.drop 10))
  isplitr; · iexact Hctx2
  isplitl [tB2]; · iexact tB2
  isplitl [dB2]; · iexact dB2
  isplitl [mB1]; · iexact mB1
  isplitl [HO]; · iexact HO
  iintro sB2 kB2 HO
  iapply (reduce_step I K c 0 0 1 rfl (allObs.drop 11) (by decide) fullShare.right)
  isplitr; · iexact Hctx2
  isplitl [tR1]; · iexact tR1
  isplitl [dR1]; · iexact dR1
  isplitl [sR1]; · iexact sR1
  isplitl [kA2]; · iexact kA2
  isplitl [Hw]; · iexact Hw
  isplitl [gR0]; · iexact gR0
  isplitl [cR0]; · iexact cR0
  isplitl [HO]; · iexact HO
  iintro sR1 kR1 kA2 Hw vR0 mR0 HO
  iapply (reduce_step I K c 1 0 1 rfl (allObs.drop 12) (by decide) fullShare.right)
  isplitr; · iexact Hctx2
  isplitl [tS1]; · iexact tS1
  isplitl [dS1]; · iexact dS1
  isplitl [sS1]; · iexact sS1
  isplitl [kB2]; · iexact kB2
  isplitl [Hw]; · iexact Hw
  isplitl [gS0]; · iexact gS0
  isplitl [cS0]; · iexact cS0
  isplitl [HO]; · iexact HO
  iintro sS1 kS1 kB2 Hw vS0 mS0 HO
  iapply (recv_step I K c .agA 2 (allObs.drop 12) (by decide))
  isplitr; · iexact Hctx
  isplitl [gA2]; · iexact gA2
  isplitl [cA2]; · iexact cA2
  isplitl [HO]; · iexact HO
  iintro mA2 vA2 HO
  iapply (recv_step I K c .agB 2 (allObs.drop 12) (by decide))
  isplitr; · iexact Hctx
  isplitl [gB2]; · iexact gB2
  isplitl [cB2]; · iexact cB2
  isplitl [HO]; · iexact HO
  iintro mB2 vB2 HO
  iapply (reduce_step I K c 0 1 2 rfl (allObs.drop 13) (by decide) fullShare)
  isplitr; · iexact Hctx2
  isplitl [tR2]; · iexact tR2
  isplitl [dR2]; · iexact dR2
  isplitl [sR2]; · iexact sR2
  isplitl [mA2]; · iexact mA2
  isplitl [Hw]; · iexact Hw
  isplitl [gR1]; · iexact gR1
  isplitl [cR1]; · iexact cR1
  isplitl [HO]; · iexact HO
  iintro sR2 kR2 mA2 Hw vR1 mR1 HO
  iapply (reduce_step I K c 1 1 2 rfl (allObs.drop 14) (by decide) fullShare)
  isplitr; · iexact Hctx2
  isplitl [tS2]; · iexact tS2
  isplitl [dS2]; · iexact dS2
  isplitl [sS2]; · iexact sS2
  isplitl [mB2]; · iexact mB2
  isplitl [Hw]; · iexact Hw
  isplitl [gS1]; · iexact gS1
  isplitl [cS1]; · iexact cS1
  isplitl [HO]; · iexact HO
  iintro sS2 kS2 mB2 Hw vS1 mS1 HO
  iapply (ownLower_step I c fullShare.right)
  isplitl [kB0]; · iexact kB0
  isplitl [Hw]; · iexact Hw
  isplitl [o1]; · iexact o1
  iintro kB0 Hw o1
  iapply (finish_step I K c 0 (allObs.drop 14) (by decide))
  isplitr; · iexact Hctx
  isplitl [gR2]; · iexact gR2
  isplitl [cR2]; · iexact cR2
  isplitl [o0]; · iexact o0
  isplitl [HO]; · iexact HO
  iintro vR2 mR2 o0 HO
  iapply (finish_step I K c 1 (allObs.drop 14) (by decide))
  isplitr; · iexact Hctx
  isplitl [gS2]; · iexact gS2
  isplitl [cS2]; · iexact cS2
  isplitl [o1]; · iexact o1
  isplitl [HO]; · iexact HO
  iintro vS2 mS2 o1 HO
  rw [drainAll_eq]
  iapply (drainL_step I K c order (allObs.drop 14) (by decide))
  isplitr; · iexact Hctx
  isplitl [fA0 sA0 kA0 fB0 sB0 kB0 fA1 sA1 kA1 fB1 sB1 kB1 fR0 sR0 kR0 fS0 sS0 kS0 fA2 sA2 kA2 fB2 sB2 kB2 fR1 sR1 kR1 fS1 sS1 kS1 fR2 sR2 kR2 fS2 sS2 kS2]
  · simp only [over_list, order]
    unfold gone
    isplitl [fA0 sA0 kA0]
    · isplitl [fA0]; · iexact fA0
      isplitl [sA0]; · iexact sA0
      iexact kA0
    isplitl [fB0 sB0 kB0]
    · isplitl [fB0]; · iexact fB0
      isplitl [sB0]; · iexact sB0
      iexact kB0
    isplitl [fA1 sA1 kA1]
    · isplitl [fA1]; · iexact fA1
      isplitl [sA1]; · iexact sA1
      iexact kA1
    isplitl [fB1 sB1 kB1]
    · isplitl [fB1]; · iexact fB1
      isplitl [sB1]; · iexact sB1
      iexact kB1
    isplitl [fR0 sR0 kR0]
    · isplitl [fR0]; · iexact fR0
      isplitl [sR0]; · iexact sR0
      iexact kR0
    isplitl [fS0 sS0 kS0]
    · isplitl [fS0]; · iexact fS0
      isplitl [sS0]; · iexact sS0
      iexact kS0
    isplitl [fA2 sA2 kA2]
    · isplitl [fA2]; · iexact fA2
      isplitl [sA2]; · iexact sA2
      iexact kA2
    isplitl [fB2 sB2 kB2]
    · isplitl [fB2]; · iexact fB2
      isplitl [sB2]; · iexact sB2
      iexact kB2
    isplitl [fR1 sR1 kR1]
    · isplitl [fR1]; · iexact fR1
      isplitl [sR1]; · iexact sR1
      iexact kR1
    isplitl [fS1 sS1 kS1]
    · isplitl [fS1]; · iexact fS1
      isplitl [sS1]; · iexact sS1
      iexact kS1
    isplitl [fR2 sR2 kR2]
    · isplitl [fR2]; · iexact fR2
      isplitl [sR2]; · iexact sR2
      iexact kR2
    isplitl [fS2 sS2 kS2]
    · isplitl [fS2]; · iexact fS2
      isplitl [sS2]; · iexact sS2
      iexact kS2
    iempintro
  isplitl [HO]; · iexact HO
  simp only [over_list, order]
  unfold back
  iintro ⟨⟨bA0, wA0⟩, ⟨bB0, wB0⟩, ⟨bA1, wA1⟩, ⟨bB1, wB1⟩, ⟨bR0, wR0⟩, ⟨bS0, wS0⟩, ⟨bA2, wA2⟩, ⟨bB2, wB2⟩, ⟨bR1, wR1⟩, ⟨bS1, wS1⟩, ⟨bR2, wR2⟩, ⟨bS2, wS2⟩, -⟩ HO
  iapply (leave_step I K c)
  isplitr; · iexact Hctx2
  isplitl [de1]; · iexact de1
  isplitl [de0]; · iexact de0
  isplitl [fe]; · iexact fe
  isplitl [ce]; · iexact ce
  isplitl [HO]; · iexact HO
  iintro ve HO
  iapply HQ
  unfold post
  simp only [over_list, order]
  isplitl [vb ve]; · isplitl [vb] <;> iassumption
  isplitl [wA0 wB0 wA1 wB1 wR0 wS0 wA2 wB2 wR1 wS1 wR2 wS2]
  · skip
    isplitl [wA0]; · iexact wA0
    isplitl [wB0]; · iexact wB0
    isplitl [wA1]; · iexact wA1
    isplitl [wB1]; · iexact wB1
    isplitl [wR0]; · iexact wR0
    isplitl [wS0]; · iexact wS0
    isplitl [wA2]; · iexact wA2
    isplitl [wB2]; · iexact wB2
    isplitl [wR1]; · iexact wR1
    isplitl [wS1]; · iexact wS1
    isplitl [wR2]; · iexact wR2
    isplitl [wS2]; · iexact wS2
    iempintro
  isplitl [vA0 vB0 vA1 vB1 vR0 vS0 vA2 vB2 vR1 vS1 vR2 vS2]
  · skip
    isplitl [vA0]; · iexact vA0
    isplitl [vB0]; · iexact vB0
    isplitl [vA1]; · iexact vA1
    isplitl [vB1]; · iexact vB1
    isplitl [vR0]; · iexact vR0
    isplitl [vS0]; · iexact vS0
    isplitl [vA2]; · iexact vA2
    isplitl [vB2]; · iexact vB2
    isplitl [vR1]; · iexact vR1
    isplitl [vS1]; · iexact vS1
    isplitl [vR2]; · iexact vR2
    isplitl [vS2]; · iexact vS2
    iempintro
  isplitl [HO]; · iexact HO
  isplitl [bA1 bA2 mA2 bB1 bB2 mB2 mR0 mR1 mR2 mS0 mS1 mS2]
  · isplitl [bA1 bA2 mA2]
    · isplitl [bA1]; · iapply (Steps.ownsAny_intro (c : Thread nD τ) _ _); iexact bA1
      isplitl [bA2]; · iapply (Steps.ownsAny_intro (c : Thread nD τ) _ _); iexact bA2
      iapply (Steps.ownsAny_intro (c : Thread nD τ) _ _); iexact mA2
    isplitl [bB1 bB2 mB2]
    · isplitl [bB1]; · iapply (Steps.ownsAny_intro (c : Thread nD τ) _ _); iexact bB1
      isplitl [bB2]; · iapply (Steps.ownsAny_intro (c : Thread nD τ) _ _); iexact bB2
      iapply (Steps.ownsAny_intro (c : Thread nD τ) _ _); iexact mB2
    isplitl [mR0 mR1 mR2]
    · isplitl [mR0]; · iexact mR0
      isplitl [mR1]; · iexact mR1
      iexact mR2
    isplitl [mS0]; · iexact mS0
    isplitl [mS1]; · iexact mS1
    iexact mS2
  isplitl [bR0 bR1 bR2]
  · isplitl [bR0]; · iapply (Steps.ownsAny_intro (c : Thread nD τ) _ _); iexact bR0
    isplitl [bR1]; · iapply (Steps.ownsAny_intro (c : Thread nD τ) _ _); iexact bR1
    iapply (Steps.ownsAny_intro (c : Thread nD τ) _ _); iexact bR2
  isplitl [bS0 bS1 bS2]
  · isplitl [bS0]; · iapply (Steps.ownsAny_intro (c : Thread nD τ) _ _); iexact bS0
    isplitl [bS1]; · iapply (Steps.ownsAny_intro (c : Thread nD τ) _ _); iexact bS1
    iapply (Steps.ownsAny_intro (c : Thread nD τ) _ _); iexact bS2
  isplitl [Hsrc]; · iexact Hsrc
  isplitl [Hw]; · iexact Hw
  isplitl [Hf0 Hf1]; · isplitl [Hf0] <;> iassumption
  isplitl [bA0 bB0]
  · isplitl [bA0]; · iexact bA0
    iexact bB0
  isplitl [o0]; · iexact o0
  iexact o1

end Cert.KernelIdeal.Fused

end
-- ==== Proof.Deal.lean ====
/-
  What the launch deals each device: the cells it owns, the rights to raise its neighbours' cells, the credit for what
  the others owe it; and how a device opens its cells at entry and closes them at the end.
-/
module

public import proofs.«01_k».proof.Proof.Body
public import proofs.«01_k».proof.Proof.Gen.KernelIdeal.Launch
public import Idealize.ShloMosaic.Lib.Rounds.Family
public import Idealize.ShloMosaic.Lib.Pipeline.RegionTalk

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [∀ e, Nonempty (Elt F e)]

local notation "𝕄" => MT nD τ sig Unit (Elt F) ℕ UU ℕ

variable (I : In F) (K : GSem nD τ sig → ℕ) (c : Dev nD)

/-! ## Families over the cells and over the messages -/

/-- A message: a channel and its number on it. -/
abbrev Mg : Type := Ch × Fin 3
/-- The cells of a device that live only while the kernel runs: all but the entry handshake's. -/
abbrev OC : Type := Unit ⊕ (Mg ⊕ Mg)
def OC.ci : OC → CI
  | .inl _ => .ex | .inr (.inl p) => .sd p.1 p.2 | .inr (.inr p) => .rv p.1 p.2

theorem OC.ci_inj : Function.Injective OC.ci := by
  rintro (a | ⟨a1, a2⟩ | ⟨a1, a2⟩) (b | ⟨b1, b2⟩ | ⟨b1, b2⟩) h <;> cases h <;> rfl
theorem OC.ci_ne_bar (o : OC) : o.ci ≠ .bar := by
  rcases o with o | o | o <;> intro h <;> cases h

def ciEquiv : Unit ⊕ OC ≃ CI where
  toFun o := match o with | .inl _ => .bar | .inr o => o.ci
  invFun i := match i with | .bar => .inl () | .ex => .inr (.inl ()) | .sd h t => .inr (.inr (.inl (h, t))) | .rv h t => .inr (.inr (.inr (h, t)))
  left_inv o := by rcases o with o | o | o | o <;> rfl
  right_inv i := by cases i <;> rfl

theorem all1 (Φ : Unit → sProp 𝕄) : bigSep Finset.univ Φ = Φ () := by
  rw [Finset.univ_unique, bigSep_singleton]
theorem all_sum {α β : Type} [Fintype α] [Fintype β] (Φ : α ⊕ β → sProp 𝕄) : bigSep Finset.univ Φ
    = iprop(bigSep Finset.univ (fun a => Φ (.inl a)) ∗ bigSep Finset.univ (fun b => Φ (.inr b))) := bigSep_univ_sum Φ
theorem some_of {α : Type} [DecidableEq α] {s t : Finset α} (h : t ⊆ s) (Φ : α → sProp 𝕄) : (bigSep s Φ : sProp 𝕄) ⊢ bigSep t Φ := bigSep_subset h
theorem all_oc (Φ : OC → sProp 𝕄) : bigSep Finset.univ Φ
    = iprop(Φ (.inl ()) ∗ bigSep Finset.univ (fun p : Mg => Φ (.inr (.inl p))) ∗ bigSep Finset.univ (fun p : Mg => Φ (.inr (.inr p)))) := by
  rw [all_sum, all_sum, all1]
theorem all_ci (Φ : CI → sProp 𝕄) : bigSep Finset.univ Φ = iprop(Φ .bar ∗ bigSep Finset.univ (fun o : OC => Φ o.ci)) := by
  rw [bigSep_univ_equiv ciEquiv, all_sum, all1]; rfl

theorem over_fin {α : Type} [DecidableEq α] (Φ : α → sProp 𝕄) (l : List α) (h : l.Nodup) : over_list Φ l = bigSep l.toFinset Φ := by
  induction l with
  | nil => rw [List.toFinset_nil, bigSep_empty]; rfl
  | cons a l ih =>
    rw [List.nodup_cons] at h
    rw [List.toFinset_cons, bigSep_insert (by rw [List.mem_toFinset]; exact h.1), ← ih h.2]; rfl
theorem over_order (Φ : Mg → sProp 𝕄) : over_list Φ order = bigSep Finset.univ Φ := by
  rw [over_fin Φ order (by decide), show order.toFinset = Finset.univ from by decide]

/-! ## The rights to raise -/

/-- The rights handed out for one device's cells: two for each handshake, one for each message sent and received. -/
abbrev TI : Type := Fin 2 ⊕ (Fin 2 ⊕ (Mg ⊕ Mg))
def TI.ci : TI → CI | .inl _ => .bar | .inr (.inl _) => .ex | .inr (.inr (.inl p)) => .sd p.1 p.2 | .inr (.inr (.inr p)) => .rv p.1 p.2
def TI.duty : TI → Fin 2 | .inl d => d | .inr (.inl d) => d | .inr (.inr _) => 0
theorem TI.inj : Function.Injective (fun k : TI => (k.ci, k.duty)) := by
  rintro (a | a | ⟨a1, a2⟩ | ⟨a1, a2⟩) (b | b | ⟨b1, b2⟩ | ⟨b1, b2⟩) h <;> cases h <;> rfl

def nbE (d : Fin 2) : Dev nD ≃ Dev nD := ⟨nb d, nb (opp d), opp_nb d, nb_opp d⟩
/-- Whose cell a device raises with its right. -/
def TI.dest : TI → (Dev nD ≃ Dev nD)
  | .inl d => nbE (opp d) | .inr (.inl d) => nbE (opp d) | .inr (.inr (.inl _)) => Equiv.refl _ | .inr (.inr (.inr p)) => nbE p.1.half

def barEmb : Dev nD ↪ GSem nD τ sig := ⟨fun c => cell c .bar, fun _ _ h => congrArg (fun g : GSem nD τ sig => g.1.1) h⟩
def ownEmb : Dev nD × OC ↪ GSem nD τ sig := ⟨fun p => cell p.1 p.2.ci, fun p q h => by
  have : (p.1, p.2.ci) = (q.1, q.2.ci) := cell_inj h
  exact Prod.ext (congrArg (fun x : Dev nD × CI => x.1) this) (OC.ci_inj (congrArg (fun x : Dev nD × CI => x.2) this))⟩
def cellEmb : Dev nD × CI ↪ GSem nD τ sig := ⟨fun p => cell p.1 p.2, cell_inj⟩
def tokEmb : Dev nD × TI ↪ GSem nD τ sig × ℕ × Fin 2 := ⟨fun p => (cell p.1 p.2.ci, 0, p.2.duty), fun p q h => by
  have h1 : (p.1, p.2.ci) = (q.1, q.2.ci) := cell_inj (congrArg (fun t : GSem nD τ sig × ℕ × Fin 2 => t.1) h)
  exact Prod.ext (congrArg (fun x : Dev nD × CI => x.1) h1) (TI.inj (Prod.ext (congrArg (fun x : Dev nD × CI => x.2) h1) (congrArg (fun t : GSem nD τ sig × ℕ × Fin 2 => t.2.2) h)))⟩

abbrev barCells : Finset (GSem nD τ sig) := Finset.univ.map barEmb
abbrev ownCells : Finset (GSem nD τ sig) := Finset.univ.map ownEmb
abbrev rights : Finset (GSem nD τ sig × ℕ × Fin 2) := Finset.univ.map tokEmb

theorem disjoint_cells : Disjoint barCells ownCells := by
  rw [Finset.disjoint_left]
  intro g h1 h2
  obtain ⟨c, -, rfl⟩ := Finset.mem_map.mp h1
  obtain ⟨p, -, h⟩ := Finset.mem_map.mp h2
  exact OC.ci_ne_bar p.2 (loc_inj (congrArg Prod.snd h))

theorem cells_sub : (Finset.univ.map cellEmb : Finset (GSem nD τ sig)) ⊆ barCells ∪ ownCells := by
  intro g hg
  obtain ⟨⟨c, i⟩, -, rfl⟩ := Finset.mem_map.mp hg
  obtain ⟨o, rfl⟩ := ciEquiv.surjective i
  rcases o with o | o
  · exact Finset.mem_union_left _ (Finset.mem_map_of_mem barEmb (Finset.mem_univ c))
  · exact Finset.mem_union_right _ (Finset.mem_map_of_mem ownEmb (Finset.mem_univ (c, o)))

theorem invs_of_cells : bigSep (barCells ∪ ownCells) (fun g => cellInv ER (Rd I) (K g) g) ⊢ invs I K := by
  refine BIBase.Entails.trans (some_of cells_sub _) (Entails.of_eq ?_)
  rw [bigSep_map]; rfl

/-- The rights a device holds. -/
def held (c : Dev nD) : sProp 𝕄 := bigSep Finset.univ fun k : TI => dutyTok ER (cell (k.dest c) k.ci) 0 k.duty

theorem rights_dealt : bigSep rights (fun x => (dutyTok ER x.1 x.2.1 x.2.2 : sProp 𝕄)) = bigSep Finset.univ (held (F := F)) := by
  unfold held
  rw [bigSep_map, bigSep_univ_prod, bigSep_univ_comm, bigSep_univ_comm (α := Dev nD)]
  exact bigSep_congr fun k _ => bigSep_univ_equiv k.dest fun c => (dutyTok ER (cell c k.ci) 0 k.duty : sProp 𝕄)

theorem held_elim : (held c : sProp 𝕄) ⊢ iprop((dutyTok ER (cell (nb 1 c) .bar) 0 0 ∗ dutyTok ER (cell (nb 0 c) .bar) 0 1
      ∗ dutyTok ER (cell (nb 1 c) .ex) 0 0 ∗ dutyTok ER (cell (nb 0 c) .ex) 0 1)
    ∗ over_list (fun p : Ch × Fin 3 => tok c p.1 p.2) order) := by
  unfold held tok
  rw [over_order, bigSep_sep', all_sum, all_sum, all_sum, bigSep_univ_two, bigSep_univ_two]
  iintro ⟨⟨H0, H1⟩, ⟨H2, H3⟩, H4, H5⟩
  isplitl [H0 H1 H2 H3]
  · isplitl [H0]; · iexact H0
    isplitl [H1]; · iexact H1
    isplitl [H2]; · iexact H2
    iexact H3
  isplitl [H4]; · iexact H4
  iexact H5

/-! ## The credit for what the others owe -/

def Ob.dst (c : Dev nD) : Ob → Dev nD | bar d => nb d c | msg h t => h.to c | ex d => nb d c
def Ob.ci : Ob → CI | bar d => .bar | msg h t => .rv h t | ex d => .ex
theorem Ob.cell_eq (o : Ob) : o.cell c = Fused.cell (o.dst c) o.ci := by cases o <;> rfl
theorem Ob.amt_eq (o : Ob) : o.amt = o.ci.amount := by cases o <;> rfl

/-- How many things all the devices owe a cell. -/
def CI.mult : CI → ℕ | bar => 2 | ex => 2 | sd _ _ => 0 | rv _ _ => 1
theorem mult_eq (c : Dev nD) (i : CI) : (∑ d : Dev nD, (allObs.map fun o => if o.dst d = c ∧ o.ci = i then 1 else 0).sum) = i.mult := by
  revert c i; decide +kernel

theorem debt_at (d c : Dev nD) (i : CI) (l : List Ob) :
    debt d l (cell c i) () = (l.map fun o => if o.dst d = c ∧ o.ci = i then 1 else 0).sum * i.amount := by
  induction l with
  | nil => exact (Nat.zero_mul _).symm
  | cons o l ih =>
    rw [debt_cons, Pi.add_apply, Finsupp.add_apply, ih, List.map_cons, List.sum_cons, Nat.add_mul, Nat.add_comm, tallyAt_apply, Ob.cell_eq, Ob.amt_eq]
    congr 1
    by_cases h : o.dst d = c ∧ o.ci = i
    · rw [if_pos h, if_pos ⟨by rw [h.1, h.2], rfl⟩, Nat.one_mul, h.2]
    · rw [if_neg h, if_neg, Nat.zero_mul]
      rintro ⟨h1, -⟩
      have := cell_inj (a₁ := (c, i)) (a₂ := (o.dst d, o.ci)) h1
      exact h ⟨(congrArg Prod.fst this).symm, (congrArg Prod.snd this).symm⟩

/-- What each device owes when the kernel starts. -/
abbrev O₀ (c : Dev nD) : CellTallies nD τ sig Unit := debt c allObs

theorem launch_at (i : CI) : tallyOn (cell c i) (launchCredit (Pipeline.owing O₀) 0 (cell c i))
    = (tallyAt (cell c i) () (i.mult * i.amount) : CellTallies nD τ sig Unit) := by
  unfold tallyAt
  refine congrArg _ (Finsupp.ext fun u => ?_)
  cases u
  rw [Pipeline.launchCredit_owing, Finsupp.single_eq_same, Finset.sum_congr rfl fun d _ => debt_at d c i allObs, ← Finset.sum_mul, mult_eq]

def locEmb : CI ↪ SemLoc sig := ⟨CI.loc, fun _ _ h => loc_inj h⟩

/-- The credits a device starts with. -/
def credits (c : Dev nD) : sProp 𝕄 :=
  iprop(credit c .bar ∗ credit c .ex ∗ over_list (fun p : Ch × Fin 3 => credit c (.rv p.1 p.2)) order)

theorem credits_intro : (Pipeline.launchCred O₀ c : sProp 𝕄) ⊢ credits c := by
  unfold Pipeline.launchCred
  refine BIBase.Entails.trans (some_of (Finset.subset_univ (Finset.univ.map locEmb)) _) ?_
  rw [bigSep_map, show (fun i : CI => (cred (tallyOn ((c : Thread nD τ), locEmb i) (launchCredit (Pipeline.owing O₀) 0 ((c : Thread nD τ), locEmb i))) : sProp 𝕄))
      = fun i : CI => cred (tallyAt (cell c i) () (i.mult * i.amount)) from funext fun i => congrArg _ (launch_at c i), all_ci, all_oc]
  unfold credits
  rw [over_order, show (fun p : Mg => (credit c (.rv p.1 p.2) : sProp 𝕄)) = fun p : Mg => cred (tallyAt (cell c (OC.ci (.inr (.inr p)))) () ((OC.ci (.inr (.inr p))).mult * (OC.ci (.inr (.inr p))).amount))
      from funext fun p => by
        show cred (tallyAt (cell c (.rv p.1 p.2)) () N) = cred (tallyAt (cell c (.rv p.1 p.2)) () (1 * N))
        rw [Nat.one_mul]]
  iintro ⟨H0, H1, -, H2⟩
  isplitl [H0]; · iexact H0
  isplitl [H1]; · iexact H1
  iexact H2

/-! ## Opening and closing the cells -/

/-- The program's own counters: those of the weights' copies, and those of the cells. -/
abbrev KK : Type := Fin 4 ⊕ OC
def osem : KK → SemLoc sig | .inl n => .dma (wsem n) | .inr o => o.ci.loc
theorem ownSems_eq : (Pipeline.ownSems0 osem c : sProp 𝕄)
    = iprop(bigSep Finset.univ (fun n : Fin 4 => semVal ((c : Thread nD τ), SemLoc.dma (wsem n)) 0) ∗ bigSep Finset.univ (fun o : OC => semVal (cell c o.ci) 0)) :=
  all_sum _

/-- What everybody may know from the launch on. -/
def known (c : Dev nD) : sProp 𝕄 :=
  iprop(invs I K ∗ reached ER (cell c .bar) 0 ∗ reached ER (cell (nb 0 c) .bar) 0 ∗ reached ER (cell (nb 1 c) .bar) 0)
instance known_persistent : BI.Persistent (known I K c) := by unfold known; infer_instance

/-- What the launch leaves with a device. -/
def dealt (c : Dev nD) : sProp 𝕄 :=
  iprop(fresh c .bar ∗ bigSep Finset.univ (fun o : OC => openTok ER (cell c o.ci)) ∗ held c ∗ credits c)
/-- What it has once its cells are open. -/
def opened (c : Dev nD) : sProp 𝕄 :=
  iprop(bigSep Finset.univ (fun i : CI => fresh c i) ∗ held c ∗ credits c)

theorem open_cells : iprop(known I K c ∗ dealt c ∗ bigSep Finset.univ (fun o : OC => semVal (cell c o.ci) 0) ∗ levAts L lv)
    ⊢ |={Set.univ}=> iprop(ctx I K c ∗ opened c) := by
  have hinv : iprop(invs I K ∗ bigSep Finset.univ (fun o : OC => openTok ER (cell c o.ci)))
      ⊢ bigSep Finset.univ fun o : OC => iprop(cellInv ER (Rd I) (K (cell c o.ci)) (cell c o.ci) ∗ openTok ER (cell c o.ci)) :=
    bigSep_with_persistent fun o _ => by
      iintro ⟨H, Ho⟩
      isplitl [H]; · iapply (invs_at I K c o.ci); iexact H
      iexact Ho
  unfold known dealt
  iintro ⟨⟨#HI, #Hb, #H0, #H1⟩, ⟨Hf, Ho, Hh, Hc⟩, Hv, #HL⟩
  imod (Rounds.cells_open ER (Rd I) Finset.univ (fun o : OC => cell c o.ci) (fun o : OC => K (cell c o.ci)) (Es := Set.univ) (fun _ _ => Set.mem_univ _)) $$ [Ho Hv] with Hop
  · isplitl [Ho]
    · iapply hinv
      isplitr; · iexact HI
      iexact Ho
    iexact Hv
  ihave Hop := (Entails.of_eq (bigSep_sep' (s := Finset.univ) (Φ := fun o : OC => (atPos ER (cell c o.ci) 0 ∅ 0 : sProp 𝕄)) (Ψ := fun o : OC => (reached ER (cell c o.ci) 0 : sProp 𝕄)))) $$ Hop
  icases Hop with ⟨Hat, #Hr⟩
  imodintro
  isplitr
  · unfold ctx reach
    isplitr; · iexact HI
    isplitr
    · rw [all_ci]
      isplitr; · iexact Hb
      iexact Hr
    isplitr; · iexact H0
    isplitr; · iexact H1
    iexact HL
  unfold opened
  rw [all_ci]
  isplitl [Hf Hat]
  · isplitl [Hf]; · iexact Hf
    iexact Hat
  isplitl [Hh]; · iexact Hh
  iexact Hc

/-- The invariants, the positions and the counts of an open device, as its run takes them. -/
theorem opened_elim : (opened c : sProp 𝕄) ⊢ iprop((dutyTok ER (cell (nb 1 c) .bar) 0 0 ∗ dutyTok ER (cell (nb 0 c) .bar) 0 1
      ∗ dutyTok ER (cell (nb 1 c) .ex) 0 0 ∗ dutyTok ER (cell (nb 0 c) .ex) 0 1)
    ∗ (fresh c .bar ∗ credit c .bar ∗ fresh c .ex ∗ credit c .ex)
    ∗ over_list (fun p : Ch × Fin 3 => tok c p.1 p.2) order ∗ over_list (fun p : Ch × Fin 3 => fresh c (.sd p.1 p.2)) order
    ∗ over_list (fun p : Ch × Fin 3 => fresh c (.rv p.1 p.2)) order ∗ over_list (fun p : Ch × Fin 3 => credit c (.rv p.1 p.2)) order) := by
  unfold opened credits
  rw [over_order (fun p : Ch × Fin 3 => fresh c (.sd p.1 p.2)), over_order (fun p : Ch × Fin 3 => fresh c (.rv p.1 p.2)), all_ci, all_oc]
  iintro ⟨⟨Hf0, Hf1, Hf2, Hf3⟩, Hh, ⟨Hc0, Hc1, Hc2⟩⟩
  ihave Hh := (held_elim c) $$ Hh
  icases Hh with ⟨Ht, Htk⟩
  isplitl [Ht]; · iexact Ht
  isplitl [Hf0 Hf1 Hc0 Hc1]
  · isplitl [Hf0]; · iexact Hf0
    isplitl [Hc0]; · iexact Hc0
    isplitl [Hf1]; · iexact Hf1
    iexact Hc1
  isplitl [Htk]; · iexact Htk
  isplitl [Hf2]; · iexact Hf2
  isplitl [Hf3]; · iexact Hf3
  iexact Hc2

/-- At the end every cell is closed, its counter at zero. -/
theorem close_cells : iprop(ctx I K c ∗ (over c .bar ∗ over c .ex)
      ∗ over_list (fun p : Ch × Fin 3 => over c (.sd p.1 p.2)) order ∗ over_list (fun p : Ch × Fin 3 => over c (.rv p.1 p.2)) order)
    ⊢ |={Set.univ}=> iprop(semVal (cell c .bar) 0 ∗ bigSep Finset.univ (fun o : OC => semVal (cell c o.ci) 0)) := by
  have hinv : iprop(invs I K ∗ bigSep Finset.univ (fun i : CI => over c i))
      ⊢ bigSep Finset.univ fun i : CI => iprop(cellInv ER (Rd I) (K (cell c i)) (cell c i) ∗ atPos ER (cell c i) 1 ∅ 0) :=
    bigSep_with_persistent fun i _ => by
      iintro ⟨H, Ho⟩
      isplitl [H]; · iapply (invs_at I K c i); iexact H
      iexact Ho
  rw [over_order, over_order]
  rw [← all_ci (fun i => semVal (cell c i) 0)]
  refine BIBase.Entails.trans ?_ (Rounds.cells_close ER (Rd I) Finset.univ (fun i : CI => cell c i) (fun i : CI => K (cell c i)) (fun _ _ => Set.mem_univ _) (fun _ _ h => h)
    (fun _ => 1) (fun i _ => Rd_later I _))
  refine BIBase.Entails.trans ?_ hinv
  rw [all_ci (fun i => over c i), all_oc]
  iintro ⟨Hctx, ⟨Hb, He⟩, Hs, Hr⟩
  isplitl [Hctx]; · iapply (ctx_invs I K c); iexact Hctx
  isplitl [Hb]; · iexact Hb
  isplitl [He]; · iexact He
  isplitl [Hs]; · iexact Hs
  iexact Hr

end Cert.KernelIdeal.Fused

end
-- ==== Proof.Region.lean ====
/-
  The kernel's region of the program: what enters it and leaves it, and the body run from the one to the other.
-/
module

public import proofs.«01_k».proof.Proof.Deal
public import proofs.«01_k».proof.Proof.Gen.KernelIdeal.Points

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [∀ e, Nonempty (Elt F e)]

local notation "𝕄" => MT nD τ sig Unit (Elt F) ℕ UU ℕ

/-! ## The scratch buffers, the counters and the weights -/

section Holdings

variable (I : In F) (K : GSem nD τ sig → ℕ) (c : Dev nD)

theorem any_of (b : Ref sig .tc) : iprop(∃ f : Buf (Elt F) ((c : Thread nD τ).loc b), ((c : Thread nD τ).loc b) ↦{fullShare} f)
    ⊢ (iprop(∃ X, owns (c : Thread nD τ) (Memref.whole b) fullShare X) : sProp 𝕄) := by
  iintro ⟨%f, H⟩
  iexists f
  iapply (BIBase.Entails.of_eq (owns_whole (c : Thread nD τ) b fullShare f).symm); iexact H
theorem of_any (b : Ref sig .tc) : (iprop(∃ X, owns (c : Thread nD τ) (Memref.whole b) fullShare X) : sProp 𝕄)
    ⊢ iprop(∃ f : Buf (Elt F) ((c : Thread nD τ).loc b), ((c : Thread nD τ).loc b) ↦{fullShare} f) := by
  iintro ⟨%X, H⟩
  iexists X
  iapply (BIBase.Entails.of_eq (owns_whole (c : Thread nD τ) b fullShare X)); iexact H

abbrev three (m : Memref sig .tc .vmem S3x512x1024 .bf16) : sProp 𝕄 :=
  iprop(Steps.ownsAny (c : Thread nD τ) (slot m 0) ∗ Steps.ownsAny (c : Thread nD τ) (slot m 1) ∗ Steps.ownsAny (c : Thread nD τ) (slot m 2))

/-- The kernel's scratch buffers, piece by piece. -/
def scratch : sProp 𝕄 :=
  iprop((Steps.ownsAny (c : Thread nD τ) b1M ∗ Steps.ownsAny (c : Thread nD τ) b2M)
    ∗ ((Steps.ownsAny (c : Thread nD τ) (s1T 0) ∗ Steps.ownsAny (c : Thread nD τ) (s1T 1)) ∗ Steps.ownsAny (c : Thread nD τ) (s2T 0) ∗ Steps.ownsAny (c : Thread nD τ) (s2T 1))
    ∗ (landAny c .agA ∗ landAny c .agB ∗ landAny c .rsA ∗ landAny c .rsB)
    ∗ three c (sums 0) ∗ three c (sums 1))

theorem scratch_split : (Pipeline.scopedRest (Ix := Unit) (Name := ℕ) (U := UU) (Lvl := ℕ) (Val := Elt F) spec0 c : sProp 𝕄) ⊢ scratch c := by
  have a0 : iprop(∃ f : Buf (Elt F) ((c : Thread nD τ).loc cc0_scratch0), ((c : Thread nD τ).loc cc0_scratch0) ↦{fullShare} f) ⊢ (Steps.ownsAny (c : Thread nD τ) b1M : sProp 𝕄) := any_of c cc0_scratch0
  have a1 : iprop(∃ f : Buf (Elt F) ((c : Thread nD τ).loc cc0_scratch1), ((c : Thread nD τ).loc cc0_scratch1) ↦{fullShare} f) ⊢ (Steps.ownsAny (c : Thread nD τ) b2M : sProp 𝕄) := any_of c cc0_scratch1
  have a2 : iprop(∃ f : Buf (Elt F) ((c : Thread nD τ).loc cc0_scratch2), ((c : Thread nD τ).loc cc0_scratch2) ↦{fullShare} f) ⊢ (Steps.ownsAny (c : Thread nD τ) s1M : sProp 𝕄) := any_of c cc0_scratch2
  have a3 : iprop(∃ f : Buf (Elt F) ((c : Thread nD τ).loc cc0_scratch3), ((c : Thread nD τ).loc cc0_scratch3) ↦{fullShare} f) ⊢ (Steps.ownsAny (c : Thread nD τ) s2M : sProp 𝕄) := any_of c cc0_scratch3
  have a4 : iprop(∃ f : Buf (Elt F) ((c : Thread nD τ).loc cc0_scratch4), ((c : Thread nD τ).loc cc0_scratch4) ↦{fullShare} f) ⊢ (Steps.ownsAny (c : Thread nD τ) (Memref.whole cc0_scratch4) : sProp 𝕄) := any_of c cc0_scratch4
  have a5 : iprop(∃ f : Buf (Elt F) ((c : Thread nD τ).loc cc0_scratch5), ((c : Thread nD τ).loc cc0_scratch5) ↦{fullShare} f) ⊢ (Steps.ownsAny (c : Thread nD τ) (Memref.whole cc0_scratch5) : sProp 𝕄) := any_of c cc0_scratch5
  have a6 : iprop(∃ f : Buf (Elt F) ((c : Thread nD τ).loc cc0_scratch6), ((c : Thread nD τ).loc cc0_scratch6) ↦{fullShare} f) ⊢ (Steps.ownsAny (c : Thread nD τ) (Memref.whole cc0_scratch6) : sProp 𝕄) := any_of c cc0_scratch6
  have a7 : iprop(∃ f : Buf (Elt F) ((c : Thread nD τ).loc cc0_scratch7), ((c : Thread nD τ).loc cc0_scratch7) ↦{fullShare} f) ⊢ (Steps.ownsAny (c : Thread nD τ) (Memref.whole cc0_scratch7) : sProp 𝕄) := any_of c cc0_scratch7
  have a8 : iprop(∃ f : Buf (Elt F) ((c : Thread nD τ).loc cc0_scratch8), ((c : Thread nD τ).loc cc0_scratch8) ↦{fullShare} f) ⊢ (Steps.ownsAny (c : Thread nD τ) (Memref.whole cc0_scratch8) : sProp 𝕄) := any_of c cc0_scratch8
  have a9 : iprop(∃ f : Buf (Elt F) ((c : Thread nD τ).loc cc0_scratch9), ((c : Thread nD τ).loc cc0_scratch9) ↦{fullShare} f) ⊢ (Steps.ownsAny (c : Thread nD τ) (Memref.whole cc0_scratch9) : sProp 𝕄) := any_of c cc0_scratch9
  rw [scopedRest0_eq]
  unfold scratch
  iintro ⟨H0, H1, H2, H3, H4, H5, H6, H7, H8, H9⟩
  isplitl [H0 H1]
  · isplitl [H0]; · iapply a0; iexact H0
    iapply a1; iexact H1
  isplitl [H2 H3]
  · isplitl [H2]; · iapply (stage1_split c); iapply a2; iexact H2
    iapply (stage2_split c); iapply a3; iexact H3
  isplitl [H4 H5 H7 H9]
  · isplitl [H4]; · iapply (slots_split c (Memref.whole cc0_scratch4)); iapply a4; iexact H4
    isplitl [H5]; · iapply (slots_split c (Memref.whole cc0_scratch5)); iapply a5; iexact H5
    isplitl [H7]; · iapply (slots_split c (Memref.whole cc0_scratch7)); iapply a7; iexact H7
    iapply (slots_split c (Memref.whole cc0_scratch9)); iapply a9; iexact H9
  isplitl [H6]; · iapply (slots_split c (Memref.whole cc0_scratch6)); iapply a6; iexact H6
  iapply (slots_split c (Memref.whole cc0_scratch8)); iapply a8; iexact H8

theorem scratch_join : (scratch c : sProp 𝕄) ⊢ (Pipeline.scopedRest (Ix := Unit) (Name := ℕ) (U := UU) (Lvl := ℕ) (Val := Elt F) spec0 c : sProp 𝕄) := by
  have a0 : (Steps.ownsAny (c : Thread nD τ) b1M : sProp 𝕄) ⊢ iprop(∃ f : Buf (Elt F) ((c : Thread nD τ).loc cc0_scratch0), ((c : Thread nD τ).loc cc0_scratch0) ↦{fullShare} f) := of_any c cc0_scratch0
  have a1 : (Steps.ownsAny (c : Thread nD τ) b2M : sProp 𝕄) ⊢ iprop(∃ f : Buf (Elt F) ((c : Thread nD τ).loc cc0_scratch1), ((c : Thread nD τ).loc cc0_scratch1) ↦{fullShare} f) := of_any c cc0_scratch1
  have a2 : (Steps.ownsAny (c : Thread nD τ) s1M : sProp 𝕄) ⊢ iprop(∃ f : Buf (Elt F) ((c : Thread nD τ).loc cc0_scratch2), ((c : Thread nD τ).loc cc0_scratch2) ↦{fullShare} f) := of_any c cc0_scratch2
  have a3 : (Steps.ownsAny (c : Thread nD τ) s2M : sProp 𝕄) ⊢ iprop(∃ f : Buf (Elt F) ((c : Thread nD τ).loc cc0_scratch3), ((c : Thread nD τ).loc cc0_scratch3) ↦{fullShare} f) := of_any c cc0_scratch3
  have a4 : (Steps.ownsAny (c : Thread nD τ) (Memref.whole cc0_scratch4) : sProp 𝕄) ⊢ iprop(∃ f : Buf (Elt F) ((c : Thread nD τ).loc cc0_scratch4), ((c : Thread nD τ).loc cc0_scratch4) ↦{fullShare} f) := of_any c cc0_scratch4
  have a5 : (Steps.ownsAny (c : Thread nD τ) (Memref.whole cc0_scratch5) : sProp 𝕄) ⊢ iprop(∃ f : Buf (Elt F) ((c : Thread nD τ).loc cc0_scratch5), ((c : Thread nD τ).loc cc0_scratch5) ↦{fullShare} f) := of_any c cc0_scratch5
  have a6 : (Steps.ownsAny (c : Thread nD τ) (Memref.whole cc0_scratch6) : sProp 𝕄) ⊢ iprop(∃ f : Buf (Elt F) ((c : Thread nD τ).loc cc0_scratch6), ((c : Thread nD τ).loc cc0_scratch6) ↦{fullShare} f) := of_any c cc0_scratch6
  have a7 : (Steps.ownsAny (c : Thread nD τ) (Memref.whole cc0_scratch7) : sProp 𝕄) ⊢ iprop(∃ f : Buf (Elt F) ((c : Thread nD τ).loc cc0_scratch7), ((c : Thread nD τ).loc cc0_scratch7) ↦{fullShare} f) := of_any c cc0_scratch7
  have a8 : (Steps.ownsAny (c : Thread nD τ) (Memref.whole cc0_scratch8) : sProp 𝕄) ⊢ iprop(∃ f : Buf (Elt F) ((c : Thread nD τ).loc cc0_scratch8), ((c : Thread nD τ).loc cc0_scratch8) ↦{fullShare} f) := of_any c cc0_scratch8
  have a9 : (Steps.ownsAny (c : Thread nD τ) (Memref.whole cc0_scratch9) : sProp 𝕄) ⊢ iprop(∃ f : Buf (Elt F) ((c : Thread nD τ).loc cc0_scratch9), ((c : Thread nD τ).loc cc0_scratch9) ↦{fullShare} f) := of_any c cc0_scratch9
  rw [scopedRest0_eq]
  unfold scratch
  iintro ⟨⟨H0, H1⟩, ⟨H2, H3⟩, ⟨H4, H5, H7, H9⟩, H6, H8⟩
  isplitl [H0]; · iapply a0; iexact H0
  isplitl [H1]; · iapply a1; iexact H1
  isplitl [H2]; · iapply a2; iapply (stage1_join c); iexact H2
  isplitl [H3]; · iapply a3; iapply (stage2_join c); iexact H3
  isplitl [H4]; · iapply a4; iapply (slots_join c (Memref.whole cc0_scratch4)); iexact H4
  isplitl [H5]; · iapply a5; iapply (slots_join c (Memref.whole cc0_scratch5)); iexact H5
  isplitl [H6]; · iapply a6; iapply (slots_join c (Memref.whole cc0_scratch6)); iexact H6
  isplitl [H7]; · iapply a7; iapply (slots_join c (Memref.whole cc0_scratch7)); iexact H7
  isplitl [H8]; · iapply a8; iapply (slots_join c (Memref.whole cc0_scratch8)); iexact H8
  iapply a9; iapply (slots_join c (Memref.whole cc0_scratch9)); iexact H9

/-- The counters of the weights' copies. -/
def wsems : sProp 𝕄 := bigSep Finset.univ fun n : Fin 4 => semVal ((c : Thread nD τ), SemLoc.dma (wsem n)) 0
theorem wsems_eq : (wsems c : sProp 𝕄) = iprop(semVal ((c : Thread nD τ), SemLoc.dma (wsem 0)) 0 ∗ semVal ((c : Thread nD τ), SemLoc.dma (wsem 1)) 0
    ∗ semVal ((c : Thread nD τ), SemLoc.dma (wsem 2)) 0 ∗ semVal ((c : Thread nD τ), SemLoc.dma (wsem 3)) 0) :=
  bigSep_univ_eq_bigSepL [0, 1, 2, 3] (by decide) (by decide) _

/-- The two weight blocks, whole. -/
abbrev weights : sProp 𝕄 := iprop(owns (c : Thread nD τ) w1M fullShare (I.a c) ∗ owns (c : Thread nD τ) w2M fullShare (I.b c))

theorem pre_intro : iprop(opened c ∗ owe c allObs ∗ wsems c ∗ scratch c ∗ weights I c ∗ owns (c : Thread nD τ) xM fullShare (I.x c) ∗ Steps.ownsAny (c : Thread nD τ) oM)
    ⊢ pre I c := by
  unfold scratch pre freeT
  rw [wsems_eq]
  iintro ⟨Ho, HO, ⟨V0, V1, V2, V3⟩, ⟨Hb, ⟨⟨A0, A1⟩, B0, B1⟩, Hl, Hs0, Hs1⟩, Hw, Hx, Hr⟩
  ihave Ho := (opened_elim c) $$ Ho
  icases Ho with ⟨H1, H2, H3, H4, H5, H6⟩
  isplitl [H1]; · iexact H1
  isplitl [H2]; · iexact H2
  isplitl [H3]; · iexact H3
  isplitl [H4]; · iexact H4
  isplitl [H5]; · iexact H5
  isplitl [H6]; · iexact H6
  isplitl [HO]; · iexact HO
  isplitl [Hl]; · iexact Hl
  isplitl [Hs0]; · iexact Hs0
  isplitl [Hs1]; · iexact Hs1
  isplitl [Hw]; · iapply (src_split I c); iexact Hw
  isplitl [Hb]; · iapply (any_split c); iexact Hb
  isplitl [A0 A1 B0 B1 V0 V1 V2 V3]
  · isplitl [A0 B0 V0 V2]
    · isplitl [A0]; · iexact A0
      isplitl [B0]; · iexact B0
      isplitl [V0] <;> iassumption
    isplitl [A1]; · iexact A1
    isplitl [B1]; · iexact B1
    isplitl [V1] <;> iassumption
  isplitl [Hx]; · iapply (x_split I c); iexact Hx
  iapply (o_split c); iexact Hr

theorem post_elim : post I c ⊢ iprop(((over c .bar ∗ over c .ex)
      ∗ over_list (fun p : Ch × Fin 3 => over c (.sd p.1 p.2)) order ∗ over_list (fun p : Ch × Fin 3 => over c (.rv p.1 p.2)) order)
    ∗ owe c [] ∗ wsems c ∗ scratch c ∗ weights I c ∗ owns (c : Thread nD τ) xM fullShare (I.x c) ∗ owns (c : Thread nD τ) oM fullShare (res I c)) := by
  unfold scratch post freeT wts
  rw [wsems_eq]
  iintro ⟨Hov, Hsd, Hrv, HO, Hl, Hs0, Hs1, Hw, ⟨Hb1, Hb2⟩, ⟨⟨A0, B0, V0, V2⟩, A1, B1, V1, V3⟩, Hx, Hr⟩
  isplitl [Hov Hsd Hrv]
  · isplitl [Hov]; · iexact Hov
    isplitl [Hsd] <;> iassumption
  isplitl [HO]; · iexact HO
  isplitl [V0 V1 V2 V3]
  · isplitl [V0]; · iexact V0
    isplitl [V1]; · iexact V1
    isplitl [V2] <;> iassumption
  isplitl [Hb1 Hb2 A0 A1 B0 B1 Hl Hs0 Hs1]
  · isplitl [Hb1 Hb2]
    · isplitl [Hb1]; · iapply (Steps.ownsAny_intro (c : Thread nD τ) b1M (I.a16 c)); iexact Hb1
      iapply (Steps.ownsAny_intro (c : Thread nD τ) b2M (I.b16 c)); iexact Hb2
    isplitl [A0 A1 B0 B1]
    · isplitl [A0 A1]
      · isplitl [A0] <;> iassumption
      isplitl [B0] <;> iassumption
    isplitl [Hl]; · iexact Hl
    isplitl [Hs0]; · iexact Hs0
    iexact Hs1
  isplitl [Hw]; · iapply (src_join I c); iexact Hw
  isplitl [Hx]; · iapply (x_join I c); iexact Hx
  iapply (o_join I c); iexact Hr

theorem run_named (k : Dev nD → P F PUnit) (Q : PUnit → sProp 𝕄) :
    run c (k c) (fun a => iprop(|={Set.univ}=> Q a)) ⊢ run c (Prog.op .deviceId k) Q := by
  rw [show run c (Prog.op .deviceId k) Q = run c (k c) Q from wp_deviceId 𝒱₀ (c : Thread nD τ) none Set.univ]
  exact wp_fupd frame _ Set.univ (k c) Q

theorem lift_bind (k : Dev nD → P F PUnit) : (Prog.lift TpuEff.deviceId >>= k : P F PUnit) = Prog.op .deviceId k := rfl

theorem run_body (Q : PUnit → sProp 𝕄) : run c (bodyOn (named c)) (fun a => iprop(|={Set.univ}=> Q a)) ⊢ run c body Q := by
  unfold body
  rw [lift_bind]
  exact run_named c (fun d => bodyOn (named d)) Q

/-- The whole body on a device: from its cells open and its buffers whole to its cells closed, the result in place. -/
theorem whole_step (Q : PUnit → sProp 𝕄) :
    iprop(ctx I K c ∗ (opened c ∗ owe c allObs ∗ wsems c ∗ scratch c ∗ weights I c ∗ owns (c : Thread nD τ) xM fullShare (I.x c) ∗ Steps.ownsAny (c : Thread nD τ) oM)
        ∗ (iprop((semVal (cell c .bar) 0 ∗ bigSep Finset.univ (fun o : OC => semVal (cell c o.ci) 0)) ∗ owe c [] ∗ wsems c ∗ scratch c ∗ weights I c
            ∗ owns (c : Thread nD τ) xM fullShare (I.x c) ∗ owns (c : Thread nD τ) oM fullShare (res I c)) -∗ |={Set.univ}=> Q ⟨⟩))
      ⊢ run c body Q := by
  refine BIBase.Entails.trans ?_ (run_body c Q)
  iintro ⟨#Hctx, Hp, HQ⟩
  iapply (body_step I K c)
  isplitr; · iexact Hctx
  isplitl [Hp]; · iapply (pre_intro I c); iexact Hp
  iintro Hpost
  ihave Hpost := (post_elim I c) $$ Hpost
  icases Hpost with ⟨Hov, Hrest⟩
  imod (close_cells I K c) $$ [Hov] with Hz
  · isplitr; · iexact Hctx
    iexact Hov
  iapply HQ
  isplitl [Hz]; · iexact Hz
  iexact Hrest

end Holdings

end Cert.KernelIdeal.Fused

end
-- ==== Proof.Enter.lean ====
/-
  The program as its two parts: the host's cast of the tokens, and the region of the kernel.
-/
module

public import proofs.«01_k».proof.Proof.Region
public import proofs.«01_k».proof.Proof.Gen.KernelIdeal.Launch
public import Idealize.ShloMosaic.Lib.Pipeline.RegionTalk
public import Idealize.ShloMosaic.Lib.Pipeline.ValueKit.Geometry

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [∀ e, Nonempty (Elt F e)]

local notation "𝕄" => MT nD τ sig Unit (Elt F) ℕ UU ℕ

section Mem

variable (m : (l : Loc nD τ sig) → Buf (Elt F) l)

/-- The buffers at launch, and after the host's cast. -/
abbrev V₀ (c : Dev nD) : Valuation τ sig (Elt F) := fun b => m ((c : Dev nD), b)
abbrev V₁ (c : Dev nD) : Valuation τ sig (Elt F) := StableHlo.after hostOps0 (V₀ m c)

/-- The tokens as the kernel reads them. -/
def toks (c : Dev nD) : Vec F S1024x1024 .bf16 := truncf .bf16 (V₀ m c (Proc.devRef .tc main_arg0)) bitsLt_bf16_f32

theorem V₁_v1 (c : Dev nD) : V₁ m c (Proc.devRef .tc main_v1) = toks m c := by
  show StableHlo.after hostOps0 (V₀ m c) (Proc.devRef .tc main_v1) = _
  rw [StableHlo.after_cons, StableHlo.after_nil, StableHlo.unary_result]; rfl
theorem V₁_of_ne (c : Dev nD) (b : DevRef τ sig) (h : b ≠ Proc.devRef .tc main_v1) : V₁ m c b = V₀ m c b := by
  show StableHlo.after hostOps0 (V₀ m c) b = _
  rw [StableHlo.after_cons, StableHlo.after_nil]
  exact HloOp.result_of_not_mem _ _ (by rw [StableHlo.unary_writes, Finset.mem_singleton]; exact h)

/-- What the devices compute from. -/
def inp : In F where
  x := toks m
  a c := V₀ m c (Proc.devRef .tc main_arg1)
  b c := V₀ m c (Proc.devRef .tc main_arg2)

/-- The buffers after the kernel. -/
abbrev V₂ (c : Dev nD) : Valuation τ sig (Elt F) := Function.update (V₁ m c) (Proc.devRef .tc main_v2) (res (inp m) c)

/-- The buffers the kernel addresses itself, and those beside the windows. -/
abbrev Hs : Finset (DevRef τ sig) := {Proc.devRef .tc main_arg1, Proc.devRef .tc main_arg2}
abbrev Sr : Finset (DevRef τ sig) := {Proc.devRef .tc main_arg0, Proc.devRef .tc main_arg1, Proc.devRef .tc main_arg2}

theorem held_hs (c : Dev nD) (V : Valuation τ sig (Elt F)) (h1 : V (Proc.devRef .tc main_arg1) = (inp m).a c) (h2 : V (Proc.devRef .tc main_arg2) = (inp m).b c) :
    (StableHlo.held (c : Thread nD τ) Hs V : sProp 𝕄) = weights (inp m) c := by
  unfold StableHlo.held weights w1M w2M
  rw [owns_whole, owns_whole, ← h1, ← h2, bigSep_eq_bigSepL_of_eq [Proc.devRef .tc main_arg1, Proc.devRef .tc main_arg2] (by decide) (by decide)]
  rfl

/-- What of the launch a device brings to the kernel; what it has with its cells open. -/
def Tk (c : Dev nD) : sProp 𝕄 := iprop(∃ K, known (inp m) K c ∗ dealt c)
def Xk (c : Dev nD) : sProp 𝕄 := iprop(∃ K, ctx (inp m) K c ∗ opened c ∗ wsems c)
def Yk (c : Dev nD) : sProp 𝕄 := semVal (cell c .bar) 0

theorem hopen (c : Dev nD) : iprop(Tk m c ∗ Pipeline.ownSems0 osem c ∗ levAts L lv) ⊢ (|={Set.univ}=> Xk m c : sProp 𝕄) := by
  rw [ownSems_eq]
  unfold Tk Xk wsems
  iintro ⟨⟨%K, Hk, Hd⟩, ⟨Hw, Hs⟩, Hl⟩
  imod (open_cells (inp m) K c) $$ [Hk Hd Hs Hl] with ⟨Hc, Ho⟩
  · isplitl [Hk]; · iexact Hk
    isplitl [Hd]; · iexact Hd
    isplitl [Hs] <;> iassumption
  imodintro
  iexists K
  isplitl [Hc]; · iexact Hc
  isplitl [Ho] <;> iassumption

abbrev rest (c : Dev nD) : sProp 𝕄 := Pipeline.scopedRest (Ix := Unit) (Name := ℕ) (U := UU) (Lvl := ℕ) (Val := Elt F) spec0 c
abbrev comes (c : Dev nD) : sProp 𝕄 := iprop(Xk m c ∗ rest c ∗ weights (inp m) c ∗ ∃ r, prngReg c r)
abbrev goes (c : Dev nD) : sProp 𝕄 := iprop(Yk c ∗ Pipeline.ownSems0 osem c ∗ rest c ∗ weights (inp m) c ∗ ∃ r, prngReg c r)

/-- The region: the tokens in, the result out; every promise kept by its end. -/
def dat0 (c : Dev nD) : Pipeline.Dat τ (Elt F) Unit ℕ UU ℕ cfg0 c where
  A w := V₁ m c (Proc.devRef .tc (Pipeline.arrRef spec0 w))
  after w _ := match w with
    | ⟨0, _⟩ => toks m c
    | ⟨1, _⟩ => res (inp m) c
  Φ t := if t.val = 0 then comes m c else goes m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat0 m

theorem owed_first (c : Dev nD) : (dat0 m c).owed t0_0.castSucc = O₀ c := rfl
theorem owed_last (c : Dev nD) : (dat0 m c).owed t0_0.succ = 0 := rfl

theorem owesAt_in {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    iprop(∃ W, owes (c : Thread nD τ) O W) ⊢ (dat.owesAt () t : sProp 𝕄) := by
  unfold Dat.owesAt Pipeline.owesWithin Dat.bound
  rw [h0, hr]
  iintro ⟨%W, HO⟩
  iexists W
  isplitr; · ipureintro; exact fun _ _ => Or.inl trivial
  iexact HO
theorem owesAt_out {cfg : Pipeline.Cfg sig Λ₀} {c : Dev nD} (dat : Dat τ (Elt F) Unit ℕ UU ℕ cfg c) (t : Fin (cfg.N + 1))
    (O : CellTallies nD τ sig Unit) (h0 : dat.owed t = O) : (dat.owesAt () t : sProp 𝕄) ⊢ iprop(∃ W, owes (c : Thread nD τ) O W) := by
  unfold Dat.owesAt Pipeline.owesWithin
  rw [h0]
  iintro ⟨%W, -, HO⟩
  iexists W; iexact HO

theorem block_at (j : (cfg0.win 0).block.Idx) : (((cfg0.win 0).blk t0_0).view.emb j : S1024x1024.Idx) = j := by
  funext a; apply Fin.ext
  have e : ∀ a, win0_0.index t0_0 a = 0 := by decide +kernel
  exact Pipeline.Window.rect_emb_val_of_index_zero _ _ _ (e a) j

theorem before_in (c : Dev nD) (d : (cfg0.win 0).block.Idx → Elt F (cfg0.win 0).elt) : (dat0 m c).before 0 t0_0 d = toks m c := by
  rw [← V₁_v1]
  unfold Pipeline.Dat.before; rw [if_pos (by decide)]
  funext j
  exact congrArg (V₁ m c (Proc.devRef .tc main_v1)) (block_at j)

/-- The kernel run from what enters the region to what leaves it. -/
theorem kernel_step (c : Dev nD) (d : Vec F S1024x1024 .f32) (Q : PUnit → sProp 𝕄) :
    iprop(comes m c ∗ (∃ W, owes (c : Thread nD τ) (O₀ c) W) ∗ owns (c : Thread nD τ) xM fullShare (toks m c) ∗ owns (c : Thread nD τ) oM fullShare d
        ∗ (iprop(goes m c ∗ (∃ W, owes (c : Thread nD τ) (0 : CellTallies nD τ sig Unit) W) ∗ owns (c : Thread nD τ) xM fullShare (toks m c)
            ∗ owns (c : Thread nD τ) oM fullShare (res (inp m) c)) -∗ Q ⟨⟩))
      ⊢ run c body Q := by
  unfold comes goes Xk Yk wsems
  rw [ownSems_eq]
  have hw : iprop(bigSep Finset.univ fun n : Fin 4 => (semVal ((c : Thread nD τ), SemLoc.dma (wsem n)) 0 : sProp 𝕄)) = wsems c := rfl
  have ho (l : List Ob) : iprop(∃ W, owes (c : Thread nD τ) (debt c l) W) = (owe c l : sProp 𝕄) := rfl
  rw [hw, show (0 : CellTallies nD τ sig Unit) = debt c [] from rfl, ho, ho]
  iintro ⟨⟨⟨%K, #Hctx, Ho, Hw⟩, Hr, Hwt, Hp⟩, HO, Hx, Hd, HQ⟩
  iapply (whole_step (inp m) K c)
  isplitr; · iexact Hctx
  isplitl [Ho Hw Hr Hwt HO Hx Hd]
  · isplitl [Ho]; · iexact Ho
    isplitl [HO]; · iexact HO
    isplitl [Hw]; · iexact Hw
    isplitl [Hr]; · iapply (scratch_split c); iexact Hr
    isplitl [Hwt]; · iexact Hwt
    isplitl [Hx]; · iexact Hx
    iapply (Steps.ownsAny_intro (c : Thread nD τ) oM d); iexact Hd
  iintro ⟨⟨Hb, Hs⟩, HO, Hw, Hr, Hwt, Hx, Hd⟩
  imodintro
  iapply HQ
  isplitl [Hb Hs Hw Hr Hwt Hp]
  · isplitl [Hb]; · iexact Hb
    isplitl [Hs Hw]
    · isplitl [Hw]; · iexact Hw
      iexact Hs
    isplitl [Hr]; · iapply (scratch_join c); iexact Hr
    isplitl [Hwt] <;> iassumption
  isplitl [HO]; · iexact HO
  isplitl [Hx]; · iexact Hx
  iexact Hd

theorem body0 (c : Dev nD) : BodyObligation (dat0 (F := F) m c) defs₀ 𝒱₀ () Set.univ := fun t => by
  obtain rfl := fin_N0 t
  rw [bigSep_W0, bigSep_W0]
  rw [show (dat0 m c).Φ t0_0.castSucc = comes m c from rfl, show (dat0 m c).Φ t0_0.succ = goes m c from rfl]
  iintro ⟨Hin, HO, ⟨%d0, H0⟩, ⟨%d1, H1⟩⟩
  iapply (kernel_step m c ((dat0 m c).before 1 t0_0 d1))
  isplitl [Hin]; · iexact Hin
  isplitl [HO]; · iapply (owesAt_out (dat0 m c) _ (O₀ c) (owed_first m c)); iexact HO
  isplitl [H0]; · rw [← before_in m c d0]; iexact H0
  isplitl [H1]; · iexact H1
  iintro ⟨Hl, HO, Hx, Hd⟩
  isplitl [Hl]; · iexact Hl
  isplitl [HO]; · iapply (owesAt_in (dat0 m c) _ 0 (owed_last m c) rfl); iexact HO
  isplitl [Hx]; · iexact Hx
  iexact Hd

theorem share0 (c : Dev nD) (w : Fin cfg0.W) : (dat0 m c).share w = fullShare := by
  unfold Dat.share; split <;> rfl

theorem lvl_pos (o : Ob) : 0 < o.lvl := by
  cases o with
  | bar _ => exact Nat.succ_pos _
  | ex _ => exact Nat.succ_pos _
  | msg h t => revert h t; decide

theorem cut (c : Dev nD) (t : Fin (cfg0.N + 1)) (g : GSem nD τ sig) (i : Unit) (h : 0 < (dat0 m c).owed t g i) :
    i ∈ L g ∧ (0 : ℕ) < lv g i := by
  have e : (dat0 m c).owed t = if t.val = 0 then O₀ c else 0 := rfl
  rw [e] at h
  split at h
  · obtain ⟨o, -, rfl⟩ := debt_pos c allObs g i h
    rw [L_ob, lv_ob]
    exact ⟨Finset.mem_singleton_self _, lvl_pos o⟩
  · exact absurd h (Nat.lt_irrefl 0)

theorem final_out (c : Dev nD) : (dat0 m c).arrAt 1 cfg0.N = V₂ m c (Proc.devRef .tc main_v2) := by
  refine (dat0 m c).arrAt_eq_of_after_last 1 t0_0 (by decide +kernel) _ fun j => ?_
  rw [show V₂ m c (Proc.devRef .tc main_v2) = res (inp m) c from Function.update_self _ _ _]
  rfl

theorem V₂_v1 (c : Dev nD) : V₂ m c (Proc.devRef .tc main_v1) = V₁ m c (Proc.devRef .tc main_v1) := Function.update_of_ne (by decide) _ _

theorem final (c : Dev nD) (w : Fin cfg0.W) : (dat0 m c).arrAt w cfg0.N = V₂ m c (Proc.devRef .tc (Pipeline.arrRef spec0 w)) := by
  match w with
  | ⟨0, _⟩ =>
    refine ((dat0 m c).arrAt_in 0 rfl _).trans ?_
    exact (V₂_v1 m c).symm
  | ⟨1, _⟩ => exact final_out m c

theorem lv_stage (c : Dev nD) (w : Fin cfg0.W) (s : Fin (cfg0.win w).nbuf) : lv ((c : Thread nD τ), .dma ((cfg0.win w).sem s)) () ≤ 0 := by
  revert c w s; decide

theorem V₂_of_ne (c : Dev nD) (b : DevRef τ sig) (h : b ≠ Proc.devRef .tc main_v2) (h' : b ≠ Proc.devRef .tc main_v1) : V₂ m c b = V₀ m c b :=
  (Function.update_of_ne h _ _).trans (V₁_of_ne m c b h')

theorem held_in (c : Dev nD) : (StableHlo.held (c : Thread nD τ) Hs (V₁ m c) : sProp 𝕄) = weights (inp m) c :=
  held_hs m c _ (V₁_of_ne m c _ (by decide)) (V₁_of_ne m c _ (by decide))
theorem held_out (c : Dev nD) : (StableHlo.held (c : Thread nD τ) Hs (V₂ m c) : sProp 𝕄) = weights (inp m) c :=
  held_hs m c _ (V₂_of_ne m c _ (by decide) (by decide)) (V₂_of_ne m c _ (by decide) (by decide))

theorem hin (c : Dev nD) : iprop(rest c ∗ (∃ r, prngReg c r) ∗ StableHlo.held (c : Thread nD τ) Hs (V₁ m c) ∗ Xk m c) ⊢ (dat0 m c).Φ 0 := by
  rw [show (dat0 m c).Φ 0 = comes m c from rfl, held_in]
  unfold comes
  iintro ⟨Hr, Hp, Hw, Hx⟩
  isplitl [Hx]; · iexact Hx
  isplitl [Hr]; · iexact Hr
  isplitl [Hw] <;> iassumption

theorem hout (c : Dev nD) : (dat0 m c).Φ (Fin.last cfg0.N)
    ⊢ iprop(rest c ∗ (∃ r, prngReg c r) ∗ StableHlo.held (c : Thread nD τ) Hs (V₂ m c) ∗ Pipeline.ownSems0 osem c ∗ Yk c) := by
  rw [show (dat0 m c).Φ (Fin.last cfg0.N) = goes m c from rfl, held_out]
  unfold goes
  iintro ⟨Hy, Hs, Hr, Hw, Hp⟩
  isplitl [Hr]; · iexact Hr
  isplitl [Hp]; · iexact Hp
  isplitl [Hw]; · iexact Hw
  isplitl [Hs] <;> iassumption

theorem cells_inj : Function.Injective (Pipeline.cellOf (nD := nD) (τ := τ) (Pipeline.pin (pcfgs (F := F)) adm)) := cellOf_inj

theorem kit : Pipeline.PLaunchFacts (nD := nD) (τ := τ) (pcfgs (F := F)) 0 := launch0.toP

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs Sr (by decide) kit rfl (fun c => (body0 m c).loose)
    (fun _ => 0) O₀ (fun c => (zero_add _).symm) (fun c => rfl) (fun _ => rfl) (share0 m)
    (V₁ m) (V₂ m) (fun c b hb => Function.update_of_ne (by revert b; decide) _ _)
    (Tk m) Yk (Xk m) Yk (hopen m) (hin m) (hout m)
    (fun c => by iintro H; imodintro; iexact H)
    (fun _ => 0)
    ⟨fun c w s => by rw [L_tc]; exact Finset.mem_singleton_self _, fun c w s => lv_stage c w s, fun c t g i h => cut m c t g i h⟩
    (fun _ => iprop(emp))
    (fun c w => rfl) (final m)

end Mem

end Cert.KernelIdeal.Fused

end
-- ==== Proof.Run.lean ====
/-
  The launch, and what every run of the program ends with.
-/
module

public import proofs.«01_k».proof.Proof.Enter

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [∀ e, Nonempty (Elt F e)]

local notation "𝕄" => MT nD τ sig Unit (Elt F) ℕ UU ℕ

section Launch

variable (m : (l : Loc nD τ sig) → Buf (Elt F) l) (ρ : Dev nD → PrngReg)

/-! ## The buffers -/

abbrev bufs : Finset (DevRef τ sig) := (StableHlo.tcRefs τ sig).filter fun b => ¬ b.isScoped

theorem bufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

abbrev wins : Finset (DevRef τ sig) := Pipeline.arrRefs (τ := τ) (pcfgs (F := F) 0).spec
theorem wins_eq : wins (F := F) = {Proc.devRef .tc main_v1, Proc.devRef .tc main_v2} := by
  show (Finset.univ.image (Pipeline.arrRef spec0)).map ⟨Proc.devRef .tc, _⟩ = _
  decide

theorem bufs_parts (c : Dev nD) (W : Valuation τ sig (Elt F)) : (StableHlo.held (c : Thread nD τ) bufs W : sProp 𝕄)
    = iprop(StableHlo.held (c : Thread nD τ) (wins (F := F)) W ∗ StableHlo.held (c : Thread nD τ) Sr W) := by
  rw [StableHlo.held_sub_split (c : Thread nD τ) (show wins (F := F) ⊆ bufs by rw [wins_eq]; decide) W,
    show bufs \ wins (F := F) = Sr by rw [wins_eq]; decide]

theorem sems_eq (c : Dev nD) : (unscopedSems0 c : sProp 𝕄) = semVal (cell c .bar) 0 := by
  unfold unscopedSems0
  rw [show (Finset.univ.filter fun sm : SemLoc sig => ¬ sm.isScoped .tc) = {SemLoc.reg barS} from by decide, BI.bigSep_singleton]
  rfl

/-! ## The segments -/

/-- What rides beside the buffers up to the kernel. -/
def R (c : Dev nD) : sProp 𝕄 := iprop(Tk m c ∗ (∃ r, prngReg c r) ∗ ∃ W, owes (c : Thread nD τ) (O₀ c) W)

theorem ops_sub : ∀ op ∈ (hostOps0 : List (HloOp τ sig (Elt F))), op.bufs ⊆ bufs := fun op h => by
  simp only [List.mem_singleton] at h; subst h
  show ({Proc.devRef .tc main_arg0, Proc.devRef .tc main_v1} : Finset (DevRef τ sig)) ⊆ bufs; decide
theorem ops_fresh : ∀ op ∈ (hostOps0 : List (HloOp τ sig (Elt F))), op.fresh = ∅ := fun op h => by
  simp only [List.mem_singleton] at h; subst h; rfl

def seg : Pipeline.HostSeg (Name := ℕ) (U := UU) (pcfgs (F := F)) defs₀ 𝒱₀ L lv :=
  Pipeline.HostSeg.ofOps _ _ _ _ _ bufs hostOps0 ops_sub ops_fresh (V₀ m) (R m)

def segs : List (Pipeline.Seg (pcfgs (F := F)) adm (pdats m) () defs₀ 𝒱₀ L lv) := [.host (seg m), .region (reg m)]

theorem main_eq (c : Dev nD) : main (F := F) c = Pipeline.Seg.run (segs m) :=
  main_segs adm (pdats m) () 𝒱₀ L lv (seg m) (reg m) rfl c

theorem reg_pre (c : Dev nD) : iprop(StableHlo.held (c : Thread nD τ) bufs (V₁ m c) ∗ R m c) ⊢ (reg m).pre c := by
  show _ ⊢ iprop(StableHlo.held (c : Thread nD τ) (wins (F := F)) (V₁ m c) ∗ (∃ r, prngReg c r)
    ∗ (StableHlo.held (c : Thread nD τ) Sr (V₁ m c) ∗ emp) ∗ Tk m c ∗ ∃ Wd, owes (c : Thread nD τ) (0 + O₀ c) Wd)
  rw [bufs_parts, zero_add]
  unfold R
  iintro ⟨⟨Hw, Hs⟩, Ht, Hp, HO⟩
  isplitl [Hw]; · iexact Hw
  isplitl [Hp]; · iexact Hp
  isplitl [Hs]
  · isplitl [Hs]; · iexact Hs
    iempintro
  isplitl [Ht]; · iexact Ht
  iexact HO

abbrev Tₙ (c : Dev nD) : sProp 𝕄 := iprop(StableHlo.held (c : Thread nD τ) bufs (V₂ m c) ∗ semVal (cell c .bar) 0)

theorem reg_post (c : Dev nD) : (reg m).post c ⊢ iprop(Tₙ m c ∗ ∃ W, owes (c : Thread nD τ) (0 : CellTallies nD τ sig Unit) W) := by
  show iprop(StableHlo.held (c : Thread nD τ) (wins (F := F)) (V₂ m c) ∗ (∃ r, prngReg c r)
    ∗ (StableHlo.held (c : Thread nD τ) Sr (V₂ m c) ∗ emp) ∗ Yk c ∗ ∃ Wd, owes (c : Thread nD τ) (0 : CellTallies nD τ sig Unit) Wd) ⊢ _
  unfold Tₙ Yk
  rw [bufs_parts]
  iintro ⟨Hw, -, ⟨Hs, -⟩, Hb, HO⟩
  isplitr [HO]
  · isplitl [Hw Hs]
    · isplitl [Hw]; · iexact Hw
      iexact Hs
    iexact Hb
  iexact HO

/-! ## The launch -/

/-- The element the launch starts from: the staging cells' part, and the protocol's. -/
def u₀ : UU :=
  (initOf (Pipeline.cells (Pipeline.pin (pcfgs (F := F)) adm) cells_inj) (Pipeline.launchToks (Pipeline.pin (pcfgs (F := F)) adm) cells_inj),
    (launchOf barCells ownCells rights, 1))

theorem own_parts (a : UR sig nD τ) (b : UB) : (ownU ((a, (b, 1)) : UU) : sProp 𝕄) ⊢ iprop(BI.own (EP a) ∗ BI.own (ER b)) := by
  refine (ownU_pair _ _).trans (BIClass.sep_mono .rfl ?_)
  refine BIBase.Entails.trans (own_pair_emb _ b (1 : Counters)) ?_
  iintro ⟨H, -⟩
  iexact H

/-- The protocol's part of the launch, kept on one device until the cells are made. -/
def parked (c : Dev nD) : sProp 𝕄 := if c = 0 then BI.own (ER (launchOf barCells ownCells rights)) else iprop(emp)
theorem parked_eq : bigSep Finset.univ (parked (F := F)) = BI.own (ER (launchOf barCells ownCells rights)) := by
  rw [bigSep_univ_at _ (0 : Dev nD), bigSep_congr (s := Finset.univ.erase (0 : Dev nD)) (Ψ := fun _ => (BI.emp : sProp 𝕄))
      fun c hc => by unfold parked; rw [if_neg (Finset.ne_of_mem_erase hc)]; rfl, BI.bigSep_emp_const]
  unfold parked; rw [if_pos rfl]
  exact BI.equiv_iff.mp sep_emp

/-- What every device may look up: all the cells, and each entry handshake at its start. -/
def facts (κ : GSem nD τ sig → ℕ) : sProp 𝕄 :=
  iprop((bigSep (barCells ∪ ownCells) fun g => cellInv ER (Rd (inp m)) (κ g) g) ∗ bigSep barCells fun g => reached ER g 0)
instance facts_persistent (κ : GSem nD τ sig → ℕ) : BI.Persistent (facts m κ) := by unfold facts; infer_instance

theorem reached_bar (c : Dev nD) : (bigSep barCells fun g => (reached ER g 0 : sProp 𝕄)) ⊢ reached ER (cell c .bar) 0 :=
  bigSep_elim (Finset.mem_map_of_mem barEmb (Finset.mem_univ c))

theorem known_intro (κ : GSem nD τ sig → ℕ) (c : Dev nD) : facts m κ ⊢ known (inp m) κ c := by
  unfold facts known
  iintro ⟨#HI, #HR⟩
  isplitr; · iapply (invs_of_cells (inp m) κ); iexact HI
  isplitr; · iapply (reached_bar (F := F) c); iexact HR
  isplitr; · iapply (reached_bar (F := F) (nb 0 c)); iexact HR
  iapply (reached_bar (F := F) (nb 1 c)); iexact HR

abbrev T₀ (c : Dev nD) : sProp 𝕄 := iprop(StableHlo.held (c : Thread nD τ) bufs (V₀ m c) ∗ R m c)

/-- A device's share that is its own from the start, and the share dealt to it. -/
def owned (c : Dev nD) : sProp 𝕄 :=
  iprop(StableHlo.held (c : Thread nD τ) bufs (V₀ m c) ∗ credits c ∗ owes (c : Thread nD τ) (O₀ c) ∅ ∗ ∃ r, prngReg c r)
def share (c : Dev nD) : sProp 𝕄 := iprop(fresh c .bar ∗ bigSep Finset.univ (fun o : OC => openTok ER (cell c o.ci)) ∗ held c)

theorem T₀_intro (κ : GSem nD τ sig → ℕ) (c : Dev nD) : iprop(facts m κ ∗ (share c ∗ owned m c)) ⊢ T₀ m c := by
  unfold share owned T₀ R Tk dealt
  iintro ⟨#HF, ⟨Hb, Ho, Hh⟩, Hbuf, Hc, HO, Hp⟩
  isplitl [Hbuf]; · iexact Hbuf
  isplitl [Hb Ho Hh Hc]
  · iexists κ
    isplitr; · iapply (known_intro m κ c); iexact HF
    isplitl [Hb]; · iexact Hb
    isplitl [Ho]; · iexact Ho
    isplitl [Hh] <;> iassumption
  isplitl [Hp]; · iexact Hp
  iexists ∅; iexact HO

abbrev given (c : Dev nD) : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ parked c)

theorem given_elim (c : Dev nD) : given m ρ c ⊢ iprop(owned m c ∗ (semVal (cell c .bar) 0 ∗ parked c)) := by
  unfold given
  rw [show unscopedBufs c (fun b => m ((c : Thread nD τ).loc b)) = StableHlo.held (c : Thread nD τ) bufs (V₀ m c) from bufs_held c (V₀ m c), sems_eq]
  unfold owned
  iintro ⟨Hh, Hs, HO, Hc, Hp, HG⟩
  isplitl [Hh HO Hc Hp]
  · isplitl [Hh]; · iexact Hh
    isplitl [Hc]; · iapply (credits_intro (F := F) c); iexact Hc
    isplitl [HO]; · iexact HO
    iexists (ρ c); iexact Hp
  isplitl [Hs] <;> iassumption

theorem bar_each (Φ : GSem nD τ sig → sProp 𝕄) : bigSep barCells Φ = bigSep Finset.univ fun c : Dev nD => Φ (cell c .bar) :=
  bigSep_map (s := Finset.univ) barEmb
theorem own_each (Φ : GSem nD τ sig → sProp 𝕄) : bigSep ownCells Φ = bigSep Finset.univ fun c : Dev nD => bigSep Finset.univ fun o : OC => Φ (cell c o.ci) := by
  rw [bigSep_map, bigSep_univ_prod]; rfl

theorem init : iprop((bigSep Finset.univ fun c : Dev nD => given m ρ c) ∗ levAts L lv) ⊢ (|={Set.univ}=> bigSep Finset.univ (T₀ m) : sProp 𝕄) := by
  have h1 : (bigSep Finset.univ fun c : Dev nD => given m ρ c) ⊢ (bigSep Finset.univ fun c : Dev nD => iprop(owned m c ∗ (semVal (cell c .bar) 0 ∗ parked c)) : sProp 𝕄) :=
    bigSep_mono fun c _ => given_elim m ρ c
  iintro ⟨H, -⟩
  ihave H := h1 $$ H
  ihave H := (Entails.of_eq (bigSep_sep' _ _ _)) $$ H
  icases H with ⟨HB, H⟩
  ihave H := (Entails.of_eq (bigSep_sep' _ _ _)) $$ H
  icases H with ⟨Hv, HG⟩
  imod (Rounds.fund_launch ER (Rd (inp m)) disjoint_cells (fun g _ h => h) rights) $$ [Hv HG] with ⟨%κ, -, #Hinv, #Hr, Hat, Hopen, Htok⟩
  · isplitl [Hv]
    · iapply (Entails.of_eq (bar_each (F := F) fun g => semVal g 0).symm); iexact Hv
    · iapply (Entails.of_eq (parked_eq (F := F))); iexact HG
  imodintro
  iapply (bigSep_with_persistent (R := facts m κ) (Φ := fun c => iprop(share c ∗ owned m c)) fun c _ => T₀_intro m κ c)
  isplitr
  · unfold facts
    isplitr; · iexact Hinv
    iexact Hr
  iapply (Entails.of_eq (bigSep_sep' _ _ _).symm)
  isplitr [HB]
  · unfold share
    iapply (Entails.of_eq (bigSep_sep' _ _ _).symm)
    isplitl [Hat]; · iapply (Entails.of_eq (bar_each (F := F) fun g => atPos ER g 0 ∅ 0)); iexact Hat
    iapply (Entails.of_eq (bigSep_sep' _ _ _).symm)
    isplitl [Hopen]; · iapply (Entails.of_eq (own_each (F := F) fun g => openTok ER g)); iexact Hopen
    iapply (Entails.of_eq (rights_dealt (F := F))); iexact Htok
  · iexact HB

/-! ## The run -/

theorem unscoped_only : ∀ sm : SemLoc sig, sm.isScoped .tc = false → sm = .reg barS := by decide

abbrev pt (c : Dev nD) (b : Ref sig .tc) (f : Buf (Elt F) ((c : Thread nD τ).loc b)) : sProp 𝕄 := ((c : Thread nD τ).loc b) ↦{fullShare} f

theorem bufs_all (c : Dev nD) (W : Valuation τ sig (Elt F)) : (StableHlo.held (c : Thread nD τ) bufs W : sProp 𝕄)
    = iprop(pt c main_arg0 (W main_arg0) ∗ pt c main_arg1 (W main_arg1) ∗ pt c main_arg2 (W main_arg2) ∗ pt c main_v1 (W main_v1) ∗ pt c main_v2 (W main_v2)) := by
  unfold StableHlo.held
  rw [bigSep_eq_bigSepL_of_eq [Proc.devRef .tc main_arg0, Proc.devRef .tc main_arg1, Proc.devRef .tc main_arg2, Proc.devRef .tc main_v1, Proc.devRef .tc main_v2]
    (by decide) (by decide)]
  rfl

/-- What a device's buffers and its handshake's counter hold at the end. -/
abbrev Ends (c : Dev nD) (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v2) = res (inp m) c) ∧ s.sem (cell c .bar) = 0

theorem ends_elim (c : Dev nD) (s' : Phys nD τ sig (Elt F)) : iprop(Tₙ m c ∗ SI s') ⊢ (|={Set.univ}=> iprop(⌜Ends m c s'.mem⌝ ∗ SI s') : sProp 𝕄) := by
  dsimp only [Tₙ]
  rw [bufs_all, V₂_of_ne m c main_arg0 (by decide) (by decide), V₂_of_ne m c main_arg1 (by decide) (by decide), V₂_of_ne m c main_arg2 (by decide) (by decide),
    show V₂ m c main_v2 = res (inp m) c from Function.update_self _ _ _]
  iintro ⟨⟨⟨H0, H1, H2, -, H3⟩, Hb⟩, HSI⟩
  icombine HSI H0 gives %h0
  icombine HSI H1 gives %h1
  icombine HSI H2 gives %h2
  icombine HSI H3 gives %h3
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3⟩, by simpa using hb⟩
  iexact HSI

theorem launch_elim : (ownU (u₀ (F := F)) : sProp 𝕄)
    ⊢ |={Set.univ}=> iprop(BI.own (EP (initOf (Pipeline.cells (Pipeline.pin (pcfgs (F := F)) adm) cells_inj) (Pipeline.launchToks (Pipeline.pin (pcfgs (F := F)) adm) cells_inj)))
      ∗ bigSep Finset.univ (parked (F := F))) := by
  rw [parked_eq]
  unfold u₀
  iintro Hu
  ihave H := (own_parts _ _) $$ Hu
  imodintro
  iexact H

set_option backward.isDefEq.respectTransparency.types false in
/-- Every run ends, on every device, with the result in place, the arguments as they were and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_v2) = res (inp m) c) ∧ r.2.sem = fun _ => 0) :=
  Pipeline.θ_run_regions_kit_sems (pcfgs (F := F)) adm (pdats m) () cells_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := parked) (u₀ := u₀) (hu₀ := launch_elim)
    (T₀ := T₀ m) (Tₙ := Tₙ m)
    (hch := ⟨fun c => .rfl, fun c => reg_pre m c, fun c => reg_post m c⟩)
    (hinit := init m ρ)
    (QY := Ends m)
    (hfin := ends_elim m)
    (hQ := fun s h hs => ⟨fun c => (h c).1, sem_eq_zero hs fun c sm hsm => by
        obtain rfl := unscoped_only sm hsm
        exact (h c).2⟩)

end Launch

end Cert.KernelIdeal.Fused

end
-- ==== Proof.Same.lean ====
/-
  The program as printed, and as read over the extended reals, are one text.
-/
module

public import proofs.«01_k».proof.Proof.Run
public import proofs.«01_k».proof.Proof.Gen.Kernel

@[expose] public section

noncomputable section

namespace Cert.KernelIdeal.Fused

open Idealize.ShloMosaic Idealize.ShloMosaic.TcCoe
open Idealize.SL Idealize.SL.Sem

variable {F : FTy → Type} [FloatOps F]

/-- Every run of the program as printed. -/
abbrev Runs (F : FTy → Type) [FloatOps F] : Prop :=
  ∀ (m : (l : Loc Cert.Kernel.nD Cert.Kernel.τ Cert.Kernel.sig) → Buf (Elt F) l) (ρ : Dev Cert.Kernel.nD → PrngReg),
    θ_run (Cert.Kernel.defs (F := F)) (onTc (τ := Cert.Kernel.τ) (Cert.Kernel.main (F := F))) ⟨m, fun _ => 0, ρ⟩
      (fun r => (∀ c : Dev Cert.Kernel.nD, r.2.mem ((c : Thread Cert.Kernel.nD Cert.Kernel.τ).loc Cert.Kernel.main_arg0) = m ((c : Thread Cert.Kernel.nD Cert.Kernel.τ).loc Cert.Kernel.main_arg0)
        ∧ r.2.mem ((c : Thread Cert.Kernel.nD Cert.Kernel.τ).loc Cert.Kernel.main_arg1) = m ((c : Thread Cert.Kernel.nD Cert.Kernel.τ).loc Cert.Kernel.main_arg1)
        ∧ r.2.mem ((c : Thread Cert.Kernel.nD Cert.Kernel.τ).loc Cert.Kernel.main_arg2) = m ((c : Thread Cert.Kernel.nD Cert.Kernel.τ).loc Cert.Kernel.main_arg2)) ∧ r.2.sem = fun _ => 0)
/-- And of the program read over the extended reals. -/
abbrev RunsIdeal (F : FTy → Type) [FloatOps F] : Prop :=
  ∀ (m : (l : Loc nD τ sig) → Buf (Elt F) l) (ρ : Dev nD → PrngReg),
    θ_run (defs (F := F)) (onTc (τ := τ) (main (F := F))) ⟨m, fun _ => 0, ρ⟩
      (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0)

theorem runs_same : Runs F = RunsIdeal F := by
  chain_rfl

theorem runs_ideal [∀ e, Nonempty (Elt F e)] : RunsIdeal F := fun m ρ =>
  (θ_run _ _ _).mono (fun r h => ⟨fun c => ⟨(h.1 c).1, (h.1 c).2.1, (h.1 c).2.2.1⟩, h.2⟩) (run_main m ρ)

theorem runs [∀ e, Nonempty (Elt F e)] : Runs F := runs_same (F := F) ▸ runs_ideal

end Cert.KernelIdeal.Fused

end
-- ==== Proof.Terms.lean ====
/-
  The layer as one sum over the hidden features, and what one tile of the kernel adds to it. Every device holds 4096 of the
  16384 features; a tile is a run of 512 or 1024 of them.
-/
module

public import proofs.«01_k».proof.Proof.Ring
public import Idealize.ShloMosaic.Lib.MatmulPlain
public import Idealize.ShloMosaic.Lib.StackMember
public import Idealize.ShloMosaic.Lib.IdealHost

@[expose] public section

noncomputable section

namespace Cert.KernelIdeal.Fused

open Idealize.ShloMosaic Idealize.ShloMosaic.ValueIdx
open Cert.KernelIdeal.Gen
open scoped BigOperators

/-! ## The activation -/

/-- The activation, as the reference writes it. -/
def act (h : EReal) : EReal := Ideal.div h (1 + Ideal.exp (-h))

theorem one_add_exp_ne (h : EReal) : 1 + Ideal.exp (-h) ≠ 0 := by
  induction h with
  | bot => rw [EReal.neg_bot, Ideal.exp_top, EReal.add_top_of_ne_bot (show (1 : EReal) ≠ ⊥ from EReal.coe_ne_bot 1)]; exact EReal.top_ne_zero
  | top => rw [EReal.neg_top, Ideal.exp_bot, add_zero]; exact one_ne_zero
  | coe r =>
    rw [← EReal.coe_neg, Ideal.exp_coe, ← EReal.coe_one, ← EReal.coe_add]
    have : (0 : ℝ) < 1 + Real.exp (-r) := by positivity
    exact_mod_cast this.ne'

/-- The kernel multiplies by the logistic function where the reference divides. -/
theorem mul_logistic (h : EReal) : h * Ideal.logistic h = act h := Ideal.mul_one_div (one_add_exp_ne h)

/-! ## The whole arrays -/

section Whole

variable (X : FVec Ideal ⟨2, ![4096, 1024]⟩ .f32) (A : FVec Ideal ⟨2, ![1024, 16384]⟩ .f32) (B : FVec Ideal ⟨2, ![16384, 1024]⟩ .f32)

/-- Hidden feature `k` of row `r`. -/
def feat (r : Fin 4096) (k : Fin 16384) : EReal := ∑ d : Fin 1024, X (ix2 r d) * A (ix2 d k)

/-- What feature `k` adds to column `l` of row `r`; nothing beyond the last feature. -/
def term (r : Fin 4096) (l : Fin 1024) (k : ℕ) : EReal :=
  if h : k < 16384 then act (feat X A r ⟨k, h⟩) * B (ix2 ⟨k, h⟩ l) else 0

/-- What the run of `n` features from feature `s` on adds. -/
def span (r : Fin 4096) (l : Fin 1024) (s n : ℕ) : EReal := ∑ q ∈ Finset.range n, term X A B r l (s + q)

/-- Two runs, one after the other. -/
theorem span_next (r : Fin 4096) (l : Fin 1024) {s n t n' m : ℕ} (ht : t = s + n) (hm : m = n + n') :
    span X A B r l s n + span X A B r l t n' = span X A B r l s m := by
  subst ht hm
  unfold span
  rw [Finset.sum_range_add]
  simp only [Nat.add_assoc]

/-- The whole sum. -/
theorem span_all (r : Fin 4096) (l : Fin 1024) :
    span X A B r l 0 16384 = ∑ k : Fin 16384, act (feat X A r k) * B (ix2 k l) := by
  unfold span
  rw [Finset.sum_range]
  refine Finset.sum_congr rfl fun k _ => ?_
  unfold term
  rw [dif_pos (by omega)]
  simp only [Nat.zero_add]

end Whole

/-! ## One tile -/

/-- A product onto zero, read at an index. -/
theorem dot_at {M K N : ℕ} {φ₁ φ₂ : FTy} (D : DotDims ⟨2, ![M, K]⟩ ⟨2, ![K, N]⟩ ⟨2, ![M, N]⟩) (hD : D = DotDims.plain M K N)
    (x : FVec Ideal ⟨2, ![M, K]⟩ φ₁) (y : FVec Ideal ⟨2, ![K, N]⟩ φ₂) (i : Fin M) (j : Fin N) :
    matmul D none x y (constant ⟨2, ![M, N]⟩ .f32 0x00000000#32) (ix2 i j) = ∑ k : Fin K, x (ix2 i k) * y (ix2 k j) := by
  subst hD
  refine (Ideal.matmul_plain_apply none x y _ i j).trans ?_
  show Ideal.ofBits .f32 0x00000000#32 + _ = _
  rw [Ideal.ofBits_zero_f32, zero_add]

/-- A tile of `n` features: two products and the activation between. -/
def tile {n : ℕ} (D₁ : DotDims ⟨2, ![512, 1024]⟩ ⟨2, ![1024, n]⟩ ⟨2, ![512, n]⟩) (D₂ : DotDims ⟨2, ![512, n]⟩ ⟨2, ![n, 1024]⟩ ⟨2, ![512, 1024]⟩)
    (v : FVec Ideal ⟨2, ![512, 1024]⟩ .bf16) (a : FVec Ideal ⟨2, ![1024, n]⟩ .bf16) (b : FVec Ideal ⟨2, ![n, 1024]⟩ .bf16) : FVec Ideal ⟨2, ![512, 1024]⟩ .f32 :=
  let h : FVec Ideal ⟨2, ![512, n]⟩ .bf16 := truncf .bf16 (matmul D₁ none v a (constant ⟨2, ![512, n]⟩ .f32 0x00000000#32)) bitsLt_bf16_f32
  matmul D₂ none (mulf h (logistic h)) b (constant ⟨2, ![512, 1024]⟩ .f32 0x00000000#32)

theorem part512_tile (v a b) : part512 (F := Ideal) v a b = tile (n := 512) dot_S512x1024_S1024x512_S512x512_1_0_0_1_n_n dot_S512x512_S512x1024_S512x1024_1_0_0_1_n_n v a b := rfl
theorem part1024_tile (v a b) : part1024 (F := Ideal) v a b = tile (n := 1024) dot_S512x1024_S1024x1024_S512x1024_1_0_0_1_n_n dot_S512x1024_S1024x1024_S512x1024_1_0_0_1_n_n v a b := rfl

/-- A tile of the features from `s` on, of rows that are row `r` of the whole at `i`, is their run. -/
theorem tile_run {n : ℕ} (X : FVec Ideal ⟨2, ![4096, 1024]⟩ .f32) (A : FVec Ideal ⟨2, ![1024, 16384]⟩ .f32) (B : FVec Ideal ⟨2, ![16384, 1024]⟩ .f32)
    (D₁ : DotDims ⟨2, ![512, 1024]⟩ ⟨2, ![1024, n]⟩ ⟨2, ![512, n]⟩) (h₁ : D₁ = DotDims.plain 512 1024 n)
    (D₂ : DotDims ⟨2, ![512, n]⟩ ⟨2, ![n, 1024]⟩ ⟨2, ![512, 1024]⟩) (h₂ : D₂ = DotDims.plain 512 n 1024)
    (v : FVec Ideal ⟨2, ![512, 1024]⟩ .bf16) (a : FVec Ideal ⟨2, ![1024, n]⟩ .bf16) (b : FVec Ideal ⟨2, ![n, 1024]⟩ .bf16)
    (s : ℕ) (hs : s + n ≤ 16384) (i : Fin 512) (r : Fin 4096) (l : Fin 1024)
    (hv : ∀ d, v (ix2 i d) = X (ix2 r d))
    (ha : ∀ d (q : Fin n), a (ix2 d q) = A (ix2 d ⟨s + q.val, by omega⟩))
    (hb : ∀ (q : Fin n), b (ix2 q l) = B (ix2 ⟨s + q.val, by omega⟩ l)) :
    tile D₁ D₂ v a b (ix2 i l) = span X A B r l s n := by
  refine (dot_at D₂ h₂ _ b i l).trans ?_
  unfold span
  rw [Finset.sum_range]
  refine Finset.sum_congr rfl fun q _ => ?_
  unfold term
  rw [dif_pos (by omega), hb]
  refine congrArg (· * _) ?_
  have hf : matmul D₁ none v a (constant ⟨2, ![512, n]⟩ .f32 0x00000000#32) (ix2 i q) = feat X A r ⟨s + q.val, by omega⟩ := by
    refine (dot_at D₁ h₁ v a i q).trans ?_
    unfold feat
    exact Finset.sum_congr rfl fun d _ => by rw [hv, ha]
  show matmul D₁ none v a (constant ⟨2, ![512, n]⟩ .f32 0x00000000#32) (ix2 i q) * Ideal.logistic (matmul D₁ none v a (constant ⟨2, ![512, n]⟩ .f32 0x00000000#32) (ix2 i q)) = _
  rw [hf, mul_logistic]

attribute [irreducible] span term feat act tile

end Cert.KernelIdeal.Fused

end
-- ==== Proof.Value.lean ====
/-
  What every device's block of the result is: its rows of the layer, summed over all features.
-/
module

public import proofs.«01_k».proof.Proof.Terms
public import proofs.«01_k».proof.Proof.Pieces

@[expose] public section

noncomputable section

namespace Cert.KernelIdeal.Fused

open Idealize.ShloMosaic Idealize.ShloMosaic.ValueIdx
open Cert.KernelIdeal.Gen
open scoped BigOperators

theorem dev_lt (c : Dev nD) : c.val < 4 := c.isLt

/-- Row `r` of device `c`'s block, and its feature `k`, in the whole arrays. -/
def rowOf (c : Dev nD) (r : Fin 1024) : Fin 4096 := ⟨c.val * 1024 + r.val, by have := dev_lt c; omega⟩
def featOf (c : Dev nD) (k : Fin 4096) : Fin 16384 := ⟨c.val * 4096 + k.val, by have := dev_lt c; omega⟩

/-- The devices hold the blocks of three whole arrays. -/
structure Cut (I : In Ideal) (X : FVec Ideal ⟨2, ![4096, 1024]⟩ .f32) (A : FVec Ideal ⟨2, ![1024, 16384]⟩ .f32) (B : FVec Ideal ⟨2, ![16384, 1024]⟩ .f32) : Prop where
  x : ∀ c r d, I.x c (ix2 r d) = X (ix2 (rowOf c r) d)
  a : ∀ c d k, I.a c (ix2 d k) = A (ix2 d (featOf c k))
  b : ∀ c k l, I.b c (ix2 k l) = B (ix2 (featOf c k) l)

/-! ## Where the rectangles lie -/

/-- Row `i` of half `h`. -/
def rowIn (h : Fin 2) (i : Fin 512) : Fin 1024 := ⟨512 * h.val + i.val, by omega⟩

theorem row_emb (h : Fin 2) (i : Fin 512) (d : Fin 1024) : (rRow h).emb (ix2 i d) = ix2 (rowIn h i) d := by
  funext a
  apply Fin.ext
  rw [Rect.emb_apply]
  match a with
  | ⟨0, _⟩ => show 512 * h.val + 1 * i.val = 512 * h.val + i.val; omega
  | ⟨1, _⟩ => show 0 + 1 * d.val = d.val; omega

theorem w1_emb (k : Fin 8) (d : Fin 1024) (q : Fin 512) : (rW1 k).emb (ix2 d q) = ix2 d ⟨512 * k.val + q.val, by omega⟩ := by
  funext a
  apply Fin.ext
  rw [Rect.emb_apply]
  match a with
  | ⟨0, _⟩ => show 0 + 1 * d.val = d.val; omega
  | ⟨1, _⟩ => show 512 * k.val + 1 * q.val = 512 * k.val + q.val; omega

theorem w2_emb (k : Fin 8) (q : Fin 512) (l : Fin 1024) : (rW2 k).emb (ix2 q l) = ix2 ⟨512 * k.val + q.val, by omega⟩ l := by
  funext a
  apply Fin.ext
  rw [Rect.emb_apply]
  match a with
  | ⟨0, _⟩ => show 512 * k.val + 1 * q.val = 512 * k.val + q.val; omega
  | ⟨1, _⟩ => show 0 + 1 * l.val = l.val; omega

theorem v1_emb (j : Fin 4) (d : Fin 1024) (q : Fin 1024) : (rV1 j).emb (ix2 d q) = ix2 d ⟨1024 * j.val + q.val, by omega⟩ := by
  funext a
  apply Fin.ext
  rw [Rect.emb_apply]
  match a with
  | ⟨0, _⟩ => show 0 + 1 * d.val = d.val; omega
  | ⟨1, _⟩ => show 1024 * j.val + 1 * q.val = 1024 * j.val + q.val; omega

theorem v2_emb (j : Fin 4) (q : Fin 1024) (l : Fin 1024) : (rV2 j).emb (ix2 q l) = ix2 ⟨1024 * j.val + q.val, by omega⟩ l := by
  funext a
  apply Fin.ext
  rw [Rect.emb_apply]
  match a with
  | ⟨0, _⟩ => show 1024 * j.val + 1 * q.val = 1024 * j.val + q.val; omega
  | ⟨1, _⟩ => show 0 + 1 * l.val = l.val; omega

section

variable {I : In Ideal} {X : FVec Ideal ⟨2, ![4096, 1024]⟩ .f32} {A : FVec Ideal ⟨2, ![1024, 16384]⟩ .f32} {B : FVec Ideal ⟨2, ![16384, 1024]⟩ .f32}
  (hI : Cut I X A B)
include hI

/-! ## One device's product -/

section Product

variable (c : Dev nD) (v : FVec Ideal S512x1024 .bf16) (i : Fin 512) (r : Fin 4096) (l : Fin 1024) (hv : ∀ d, v (ix2 i d) = X (ix2 r d))
include hv

theorem eighth_run (k : Fin 8) : I.eighth c v k (ix2 i l) = span X A B r l (c.val * 4096 + 512 * k.val) 512 := by
  have hc := dev_lt c
  unfold In.eighth
  rw [part512_tile]
  refine tile_run X A B _ rfl _ rfl v _ _ _ (by omega) i r l hv (fun d q => ?_) (fun q => ?_)
  · show I.a c ((rW1 k).emb (ix2 d q)) = _
    rw [w1_emb, hI.a]
    exact congrArg (fun f => A (ix2 d f)) (Fin.ext (Nat.add_assoc _ _ _).symm)
  · show I.b c ((rW2 k).emb (ix2 q l)) = _
    rw [w2_emb, hI.b]
    exact congrArg (fun f => B (ix2 f l)) (Fin.ext (Nat.add_assoc _ _ _).symm)

theorem quarter_run (j : Fin 4) : I.quarter c v j (ix2 i l) = span X A B r l (c.val * 4096 + 1024 * j.val) 1024 := by
  have hc := dev_lt c
  unfold In.quarter
  rw [part1024_tile]
  refine tile_run X A B _ rfl _ rfl v _ _ _ (by omega) i r l hv (fun d q => ?_) (fun q => ?_)
  · show I.a c ((rV1 j).emb (ix2 d q)) = _
    rw [v1_emb, hI.a]
    exact congrArg (fun f => A (ix2 d f)) (Fin.ext (Nat.add_assoc _ _ _).symm)
  · show I.b c ((rV2 j).emb (ix2 q l)) = _
    rw [v2_emb, hI.b]
    exact congrArg (fun f => B (ix2 f l)) (Fin.ext (Nat.add_assoc _ _ _).symm)

theorem prod_run : I.prod c v (ix2 i l) = span X A B r l (c.val * 4096) 4096 := by
  have E : ∀ (j : Fin 4) (n : ℕ), n = 1024 * j.val → I.quarter c v j (ix2 i l) = span X A B r l (c.val * 4096 + n) 1024 := by
    rintro j _ rfl; exact quarter_run hI c v i r l hv j
  have hz : c.val * 4096 + 0 = c.val * 4096 := Nat.add_zero _
  show I.quarter c v 0 (ix2 i l) + I.quarter c v 1 (ix2 i l) + I.quarter c v 2 (ix2 i l) + I.quarter c v 3 (ix2 i l) = _
  rw [E 0 0 (by decide), E 1 1024 (by decide), E 2 2048 (by decide), E 3 3072 (by decide), hz,
    span_next X A B r l rfl (show 2048 = 1024 + 1024 by norm_num), span_next X A B r l rfl (show 3072 = 2048 + 1024 by norm_num),
    span_next X A B r l rfl (show 4096 = 3072 + 1024 by norm_num)]

theorem prod8_run : I.prod8 c v (ix2 i l) = span X A B r l (c.val * 4096) 4096 := by
  have E : ∀ (k : Fin 8) (n : ℕ), n = 512 * k.val → I.eighth c v k (ix2 i l) = span X A B r l (c.val * 4096 + n) 512 := by
    rintro k _ rfl; exact eighth_run hI c v i r l hv k
  have hz : c.val * 4096 + 0 = c.val * 4096 := Nat.add_zero _
  show I.eighth c v 0 (ix2 i l) + I.eighth c v 1 (ix2 i l) + I.eighth c v 2 (ix2 i l) + I.eighth c v 3 (ix2 i l)
    + I.eighth c v 4 (ix2 i l) + I.eighth c v 5 (ix2 i l) + I.eighth c v 6 (ix2 i l) + I.eighth c v 7 (ix2 i l) = _
  rw [E 0 0 (by decide), E 1 512 (by decide), E 2 1024 (by decide), E 3 1536 (by decide), E 4 2048 (by decide), E 5 2560 (by decide),
    E 6 3072 (by decide), E 7 3584 (by decide), hz,
    span_next X A B r l rfl (show 1024 = 512 + 512 by norm_num), span_next X A B r l rfl (show 1536 = 1024 + 512 by norm_num),
    span_next X A B r l rfl (show 2048 = 1536 + 512 by norm_num), span_next X A B r l rfl (show 2560 = 2048 + 512 by norm_num),
    span_next X A B r l rfl (show 3072 = 2560 + 512 by norm_num), span_next X A B r l rfl (show 3584 = 3072 + 512 by norm_num),
    span_next X A B r l rfl (show 4096 = 3584 + 512 by norm_num)]

/-- The product of a device's own half block, in eighths or in quarters. -/
theorem own_run (h : Fin 2) (w : FVec Ideal S512x1024 .bf16) (hw : w = v) :
    (match h with | 0 => I.prod8 c w | 1 => I.prod c w : FVec Ideal S512x1024 .f32) (ix2 i l) = span X A B r l (c.val * 4096) 4096 := by
  subst hw
  match h with
  | 0 => exact prod8_run hI c w i r l hv
  | 1 => exact prod_run hI c w i r l hv

end Product

/-! ## Around the ring -/

omit hI in
/-- Going back along the ring from any device visits every device once, in four steps. -/
theorem back_four (h : Fin 2) (c : Dev nD) : nb (opp h) (nb (opp h) (nb (opp h) (nb (opp h) c))) = c := by revert h c; decide

omit hI in
theorem sum_ring (f : Dev nD → EReal) (h : Fin 2) (c : Dev nD) :
    f c + (f (nb (opp h) c) + (f (nb (opp h) (nb (opp h) c)) + f (nb (opp h) (nb (opp h) (nb (opp h) c))))) = f 0 + f 1 + f 2 + f 3 := by
  have hb : ∀ (h : Fin 2) (c : Dev nD), Function.Bijective (fun j : Fin 4 => ((nb (opp h))^[j.val] c : Fin 4)) := by decide
  have := (hb h c).sum_comp f
  rw [Fin.sum_univ_four, Fin.sum_univ_four] at this
  refine Eq.trans ?_ this
  show _ = f c + f (nb (opp h) c) + f (nb (opp h) (nb (opp h) c)) + f (nb (opp h) (nb (opp h) (nb (opp h) c)))
  rw [add_assoc, add_assoc]

theorem half_row (h : Fin 2) (c : Dev nD) (i : Fin 512) (d : Fin 1024) : I.xh h c (ix2 i d) = X (ix2 (rowOf c (rowIn h i)) d) := by
  show I.x c ((rRow h).emb (ix2 i d)) = _
  rw [row_emb, hI.x]

omit hI in
/-- A half of the result, with the messages taken apart: the four devices' products of one half block. -/
theorem out_at (h : Fin 2) (c : Dev nD) (j : S512x1024.Idx) :
    I.out h c j = (match h with | 0 => I.prod8 c (I.xh h c) | 1 => I.prod c (I.xh h c) : FVec Ideal S512x1024 .f32) j
      + (I.prod (nb (opp h) c) (I.gat h 3 (nb (opp h) c)) j
        + (I.prod (nb (opp h) (nb (opp h) c)) (I.gat h 2 (nb (opp h) (nb (opp h) c))) j
          + I.prod (nb (opp h) (nb (opp h) (nb (opp h) c))) (I.gat h 1 (nb (opp h) (nb (opp h) (nb (opp h) c)))) j)) := by
  match h with
  | 0 => rfl
  | 1 => rfl

omit hI in
theorem gat_own (h : Fin 2) (c : Dev nD) :
    I.gat h 3 (nb (opp h) c) = I.xh h c ∧ I.gat h 2 (nb (opp h) (nb (opp h) c)) = I.xh h c
      ∧ I.gat h 1 (nb (opp h) (nb (opp h) (nb (opp h) c))) = I.xh h c := by
  have hs : ∀ t c, I.gat h (t + 1) c = I.gat h t (nb (opp h) c) := fun _ _ => rfl
  have h0 : ∀ c, I.gat h 0 c = I.xh h c := fun _ => rfl
  refine ⟨?_, ?_, ?_⟩
  · rw [hs 2, hs 1, hs 0, h0, back_four]
  · rw [hs 1, hs 0, h0, back_four]
  · rw [hs 0, h0, back_four]

/-- A half of a device's block of the result. -/
theorem out_run (h : Fin 2) (c : Dev nD) (i : Fin 512) (l : Fin 1024) :
    I.out h c (ix2 i l) = span X A B (rowOf c (rowIn h i)) l 0 16384 := by
  have hv := fun d => half_row hI h c i d
  obtain ⟨h3, h2, h1⟩ := gat_own (I := I) h c
  rw [out_at, h3, h2, h1, own_run hI c (I.xh h c) i _ l hv h _ rfl, prod_run hI _ _ i _ l hv, prod_run hI _ _ i _ l hv, prod_run hI _ _ i _ l hv,
    sum_ring (fun e => span X A B (rowOf c (rowIn h i)) l (e.val * 4096) 4096) h c]
  show span X A B _ l 0 4096 + span X A B _ l 4096 4096 + span X A B _ l 8192 4096 + span X A B _ l 12288 4096 = _
  rw [span_next X A B _ l (show 4096 = 0 + 4096 by norm_num) (show 8192 = 4096 + 4096 by norm_num),
    span_next X A B _ l (show 8192 = 0 + 8192 by norm_num) (show 12288 = 8192 + 4096 by norm_num),
    span_next X A B _ l (show 12288 = 0 + 12288 by norm_num) (show 16384 = 12288 + 4096 by norm_num)]

/-- A device's block of the result. -/
theorem res_run [∀ e, Nonempty (Elt Ideal e)] (c : Dev nD) (r : Fin 1024) (l : Fin 1024) :
    res I c (ix2 r l) = span X A B (rowOf c r) l 0 16384 := by
  obtain ⟨h, i, rfl⟩ : ∃ h i, r = rowIn h i := ⟨⟨r.val / 512, by omega⟩, ⟨r.val % 512, by omega⟩, Fin.ext (Nat.div_add_mod _ _).symm⟩
  rw [← row_emb]
  exact (res_at I c h (ix2 i l)).trans (out_run hI h c i l)

end

end Cert.KernelIdeal.Fused

end
-- ==== Proof.Layer.lean ====
/-
  The reference's result is the layer, entry by entry, and so is the kernel's, of the same arrays.
-/
module

public import proofs.«01_k».proof.Proof.Value
public import proofs.«01_k».proof.Proof.Run
public import proofs.«01_k».proof.Proof.Gen.ReferenceIdeal.Run
public import Idealize.ShloMosaic.Lib.Layout

@[expose] public section

noncomputable section

namespace Cert.KernelIdeal.Fused

open Idealize.ShloMosaic Idealize.ShloMosaic.TcCoe Idealize.ShloMosaic.ValueIdx
open scoped BigOperators

section Reference

open Cert.ReferenceIdeal Cert.ReferenceIdeal.Gen

variable (X : FVec Ideal ⟨2, ![4096, 1024]⟩ .f32) (A : FVec Ideal ⟨2, ![1024, 16384]⟩ .f32) (B : FVec Ideal ⟨2, ![16384, 1024]⟩ .f32)

/-- The reference's hidden features, and its result. -/
def hid : FVec Ideal ⟨2, ![4096, 16384]⟩ .f32 := Host.dotGeneral dot_S4096x1024_S1024x16384_S4096x16384_1_0_0_1_n_n none X A
def layer : FVec Ideal ⟨2, ![4096, 1024]⟩ .f32 :=
  Host.dotGeneral dot_S4096x16384_S16384x1024_S4096x1024_1_0_0_1_n_n none
    (Host.divf (hid X A) (addf (broadcastInDim S4096x16384 ![] bcast_S_S4096x16384 (constant S_ .f32 0x3F800000#32)) (Host.exp (Host.negf (hid X A))))) B

/-- A host product, read at an index. -/
theorem host_dot_at {M K N : ℕ} (D : DotDims ⟨2, ![M, K]⟩ ⟨2, ![K, N]⟩ ⟨2, ![M, N]⟩) (hD : D = DotDims.plain M K N)
    (x : FVec Ideal ⟨2, ![M, K]⟩ .f32) (y : FVec Ideal ⟨2, ![K, N]⟩ .f32) (i : Fin M) (j : Fin N) :
    Host.dotGeneral D none x y (ix2 i j) = ∑ k : Fin K, x (ix2 i k) * y (ix2 k j) := by
  subst hD
  exact StackMember.dotGeneral_plain_apply none x y i j

theorem hid_at (r : Fin 4096) (k : Fin 16384) : hid X A (ix2 r k) = feat X A r k := by
  unfold hid feat
  exact host_dot_at _ rfl X A r k

theorem layer_at (r : Fin 4096) (l : Fin 1024) : layer X A B (ix2 r l) = span X A B r l 0 16384 := by
  rw [span_all]
  unfold layer
  refine (host_dot_at _ rfl _ B r l).trans (Finset.sum_congr rfl fun k _ => congrArg (· * _) ?_)
  show Ideal.div (hid X A (ix2 r k)) (Ideal.ofBits .f32 0x3F800000#32 + Ideal.exp (-(hid X A (ix2 r k)))) = _
  rw [hid_at, Ideal.ofBits_one_f32]
  unfold act
  rfl

end Reference

section Kernel

variable {X : FVec Ideal ⟨2, ![4096, 1024]⟩ .f32} {A : FVec Ideal ⟨2, ![1024, 16384]⟩ .f32} {B : FVec Ideal ⟨2, ![16384, 1024]⟩ .f32}

/-- Devices that hold blocks of whole arrays. -/
theorem cut_of_blocks (I : In Ideal)
    (hx : ∀ c : Dev nD, I.x c = Layout.block ⟨2, ![1024, 1024]⟩ ⟨2, ![4096, 1024]⟩ 0 4 c X)
    (ha : ∀ c : Dev nD, I.a c = Layout.block ⟨2, ![1024, 4096]⟩ ⟨2, ![1024, 16384]⟩ 1 4 c A)
    (hb : ∀ c : Dev nD, I.b c = Layout.block ⟨2, ![4096, 1024]⟩ ⟨2, ![16384, 1024]⟩ 0 4 c B) : Cut I X A B where
  x c r d := by
    rw [hx]
    exact congrArg X (funext fun a => match a with | ⟨0, _⟩ => rfl | ⟨1, _⟩ => rfl)
  a c d k := by
    rw [ha]
    exact congrArg A (funext fun a => match a with | ⟨0, _⟩ => rfl | ⟨1, _⟩ => rfl)
  b c k l := by
    rw [hb]
    exact congrArg B (funext fun a => match a with | ⟨0, _⟩ => rfl | ⟨1, _⟩ => rfl)

/-- A device's block of the result is that block of the layer. -/
theorem res_layer [∀ e, Nonempty (Elt Ideal e)] {I : In Ideal} (hI : Cut I X A B) (c : Dev nD) :
    res I c = Layout.block ⟨2, ![1024, 1024]⟩ ⟨2, ![4096, 1024]⟩ 0 4 c (layer X A B) := by
  funext j
  obtain ⟨r, l, rfl⟩ : ∃ (r : Fin 1024) (l : Fin 1024), j = ix2 r l := ⟨j 0, j 1, eq_ix2 j⟩
  refine (res_run hI c r l).trans ((layer_at X A B (rowOf c r) l).symm.trans ?_)
  exact congrArg (layer X A B) (funext fun a => match a with | ⟨0, _⟩ => rfl | ⟨1, _⟩ => rfl)

end Kernel

end Cert.KernelIdeal.Fused

end
-- ==== Proof.Guard.lean ====
/-
  The reference with its clip. Where the rows of `x` and the columns of `W1` have norms at most 40 and 1.5, every hidden
  feature lies between -60 and 60 (Cauchy and Schwarz), the clip cuts nothing, and the clipped layer is the layer.
-/
module

public import proofs.«01_k».proof.Proof.Layer
public import proofs.«01_k».proof.Proof.Gen.GuardedIdeal.Run
public import proofs.«01_k».proof.Proof.Gen.Pre_bounded_KernelIdeal
public import Idealize.ShloMosaic.Lib.Pointwise.Reduce

@[expose] public section

noncomputable section

namespace Cert.KernelIdeal.Fused

open Idealize.ShloMosaic hiding ix1 ix2 eq_ix2
open Idealize.ShloMosaic.TcCoe Idealize.ShloMosaic.ValueIdx
open scoped BigOperators

/-! ## Norms -/

theorem sq_nonneg' (x : EReal) : 0 ≤ x * x := by
  induction x with
  | bot => rw [EReal.bot_mul_bot]; exact le_top
  | top => rw [EReal.top_mul_top]; exact le_top
  | coe r => exact_mod_cast mul_self_nonneg r

/-- An entry of a vector of bounded norm is a real number. -/
theorem real_of_norm {n : ℕ} (u : Fin n → EReal) {b : ℝ} (h : ∑ d, u d * u d ≤ (b : EReal)) (d : Fin n) : ∃ r : ℝ, u d = r := by
  have hd : u d * u d ≤ (b : EReal) := (Finset.single_le_sum (f := fun d => u d * u d) (fun d _ => sq_nonneg' (u d)) (Finset.mem_univ d)).trans h
  generalize u d = y at hd
  induction y with
  | bot => rw [EReal.bot_mul_bot] at hd; exact absurd hd (not_le.mpr (EReal.coe_lt_top b))
  | top => rw [EReal.top_mul_top] at hd; exact absurd hd (not_le.mpr (EReal.coe_lt_top b))
  | coe r => exact ⟨r, rfl⟩

theorem coe_sum {n : ℕ} (f : Fin n → ℝ) : ((∑ d, f d : ℝ) : EReal) = ∑ d, (f d : EReal) :=
  map_sum (⟨⟨(↑), EReal.coe_zero⟩, EReal.coe_add⟩ : ℝ →+ EReal) f Finset.univ

/-- The product of two vectors of norms at most 40 and 1.5. -/
theorem inner_bound {n : ℕ} (u w : Fin n → EReal) (hu : ∑ d, u d * u d ≤ ((1600 : ℝ) : EReal)) (hw : ∑ d, w d * w d ≤ ((2.25 : ℝ) : EReal)) :
    ((-60 : ℝ) : EReal) ≤ ∑ d, u d * w d ∧ ∑ d, u d * w d ≤ ((60 : ℝ) : EReal) := by
  choose p hp using real_of_norm u hu
  choose q hq using real_of_norm w hw
  simp only [hp, hq, ← EReal.coe_mul, ← coe_sum, EReal.coe_le_coe_iff] at hu hw ⊢
  have h := Finset.sum_mul_sq_le_sq_mul_sq Finset.univ p q
  simp only [pow_two] at h
  have h0 : 0 ≤ ∑ d, q d * q d := Finset.sum_nonneg fun d _ => mul_self_nonneg _
  have h' : (∑ d, p d * q d) ^ 2 ≤ 60 ^ 2 := by nlinarith
  exact abs_le.mp (abs_le_of_sq_le_sq h' (by norm_num))

/-! ## The clipped layer -/

section Reference

open Cert.GuardedIdeal Cert.GuardedIdeal.Gen

variable (X : FVec Ideal ⟨2, ![4096, 1024]⟩ .f32) (A : FVec Ideal ⟨2, ![1024, 16384]⟩ .f32) (B : FVec Ideal ⟨2, ![16384, 1024]⟩ .f32)

/-- The hidden features as the clip leaves them, and the clipped layer. -/
def clipped : FVec Ideal ⟨2, ![4096, 16384]⟩ .f32 :=
  minimumf (broadcastInDim S4096x16384 ![] bcast_S_S4096x16384 (sitofp .f32 (constantI S_ 32 60#32)))
    (maximumf (broadcastInDim S4096x16384 ![] bcast_S_S4096x16384 (sitofp .f32 (constantI S_ 32 4294967236#32)))
      (Host.dotGeneral dot_S4096x1024_S1024x16384_S4096x16384_1_0_0_1_n_n none X A))
def guardedLayer : FVec Ideal ⟨2, ![4096, 1024]⟩ .f32 :=
  Host.dotGeneral dot_S4096x16384_S16384x1024_S4096x1024_1_0_0_1_n_n none
    (Host.divf (Host.dotGeneral dot_S4096x1024_S1024x16384_S4096x16384_1_0_0_1_n_n none X A)
      (addf (broadcastInDim S4096x16384 ![] bcast_S_S4096x16384 (constant S_ .f32 0x3F800000#32)) (Host.exp (Host.negf (clipped X A))))) B

/-- Where no feature leaves the clip's range, the clip does nothing. -/
theorem clipped_eq (h : ∀ r k, ((-60 : ℝ) : EReal) ≤ feat X A r k ∧ feat X A r k ≤ ((60 : ℝ) : EReal)) : clipped X A = hid X A := by
  funext j
  obtain ⟨r, k, rfl⟩ : ∃ (r : Fin 4096) (k : Fin 16384), j = ix2 r k := ⟨j 0, j 1, eq_ix2 j⟩
  have hr := h r k
  rw [← hid_at] at hr
  have h1 : (((60#32 : BitVec 32).toInt : ℝ) : EReal) = ((60 : ℝ) : EReal) := by
    rw [show (60#32 : BitVec 32).toInt = 60 by decide]; norm_num
  have h2 : (((4294967236#32 : BitVec 32).toInt : ℝ) : EReal) = ((-60 : ℝ) : EReal) := by
    rw [show (4294967236#32 : BitVec 32).toInt = -60 by decide]; norm_num
  show min (((60#32 : BitVec 32).toInt : ℝ) : EReal) (max (((4294967236#32 : BitVec 32).toInt : ℝ) : EReal) (hid X A (ix2 r k))) = hid X A (ix2 r k)
  rw [h1, h2, max_eq_right hr.1, min_eq_right hr.2]

theorem guarded_eq (h : ∀ r k, ((-60 : ℝ) : EReal) ≤ feat X A r k ∧ feat X A r k ≤ ((60 : ℝ) : EReal)) :
    guardedLayer X A B = layer X A B := by
  unfold guardedLayer layer
  rw [clipped_eq X A h]
  rfl

end Reference

/-! ## What the precondition says -/

section Bound

open Cert.Pre_bounded_KernelIdeal Cert.Pre_bounded_KernelIdeal.Gen

theorem ofBits_1600 : Ideal.ofBits .f32 0x44C80000#32 = ((1600 : ℝ) : EReal) := by
  simp [Ideal.ofBits, Ideal.ieee, -EReal.coe_mul]; norm_num
theorem ofBits_nine_quarters : Ideal.ofBits .f32 0x40100000#32 = ((2.25 : ℝ) : EReal) := by
  simp [Ideal.ofBits, Ideal.ieee, -EReal.coe_mul]; norm_num

theorem le_of_cmp {x y : EReal} (h : Ideal.cmp .ole x y = 1#1) : x ≤ y := by
  by_contra hn
  rw [show Ideal.cmp .ole x y = BitVec.ofBool (decide (x ≤ y)) from rfl, decide_eq_false hn] at h
  exact absurd h (by decide)

variable (x : FVec Ideal ⟨2, ![1024, 1024]⟩ .f32) (a : FVec Ideal ⟨2, ![1024, 4096]⟩ .f32) (b : FVec Ideal ⟨2, ![4096, 1024]⟩ .f32)

theorem row_norm (h : (fn (F := Ideal) x a b).1 = fun _ => 1#1) (r : Fin 1024) : ∑ d : Fin 1024, x (ix2 r d) * x (ix2 r d) ≤ ((1600 : ℝ) : EReal) := by
  have h1 := le_of_cmp (x := Ideal.hostReduceAdd reducesTo_S1024x1024_S1024_d1 (fun i => x i * x i) (Ideal.ofBits .f32 0x00000000#32) (ix1 r))
    (y := Ideal.ofBits .f32 0x44C80000#32) (congrFun h (ix1 r))
  rw [Ideal.hostReduceAdd_r2_a1, Ideal.ofBits_zero_f32, zero_add, ofBits_1600] at h1
  refine le_trans (le_of_eq (Finset.sum_congr rfl fun d _ => ?_)) h1
  exact congrArg (fun i => x i * x i) (funext fun a => match a with | ⟨0, _⟩ => rfl | ⟨1, _⟩ => rfl)

theorem col_norm (h : (fn (F := Ideal) x a b).2 = fun _ => 1#1) (k : Fin 4096) : ∑ d : Fin 1024, a (ix2 d k) * a (ix2 d k) ≤ ((2.25 : ℝ) : EReal) := by
  have h1 := le_of_cmp (x := Ideal.hostReduceAdd reducesTo_S1024x4096_S4096_d0 (fun i => a i * a i) (Ideal.ofBits .f32 0x00000000#32) (ix1 k))
    (y := Ideal.ofBits .f32 0x40100000#32) (congrFun h (ix1 k))
  rw [Ideal.hostReduceAdd_r2_a0, Ideal.ofBits_zero_f32, zero_add, ofBits_nine_quarters] at h1
  refine le_trans (le_of_eq (Finset.sum_congr rfl fun d _ => ?_)) h1
  exact congrArg (fun i => a i * a i) (funext fun e => match e with | ⟨0, _⟩ => rfl | ⟨1, _⟩ => rfl)

end Bound

section Kernel

variable {X : FVec Ideal ⟨2, ![4096, 1024]⟩ .f32} {A : FVec Ideal ⟨2, ![1024, 16384]⟩ .f32} {B : FVec Ideal ⟨2, ![16384, 1024]⟩ .f32}

/-- Every row and every column is some device's. -/
theorem row_split (r : Fin 4096) : ∃ (c : Dev nD) (i : Fin 1024), r = rowOf c i :=
  ⟨⟨r.val / 1024, by show r.val / 1024 < 4; omega⟩, ⟨r.val % 1024, by omega⟩, Fin.ext (by show r.val = r.val / 1024 * 1024 + r.val % 1024; omega)⟩
theorem feat_split (k : Fin 16384) : ∃ (c : Dev nD) (i : Fin 4096), k = featOf c i :=
  ⟨⟨k.val / 4096, by show k.val / 4096 < 4; omega⟩, ⟨k.val % 4096, by omega⟩, Fin.ext (by show k.val = k.val / 4096 * 4096 + k.val % 4096; omega)⟩

/-- Devices of bounded blocks hold arrays whose features lie in the clip's range. -/
theorem feat_bound {I : In Ideal} (hI : Cut I X A B)
    (hp : ∀ c : Dev nD, (Cert.Pre_bounded_KernelIdeal.fn (F := Ideal) (I.x c) (I.a c) (I.b c)).1 = (fun _ => 1#1)
      ∧ (Cert.Pre_bounded_KernelIdeal.fn (F := Ideal) (I.x c) (I.a c) (I.b c)).2 = (fun _ => 1#1))
    (r : Fin 4096) (k : Fin 16384) : ((-60 : ℝ) : EReal) ≤ feat X A r k ∧ feat X A r k ≤ ((60 : ℝ) : EReal) := by
  obtain ⟨c, i, rfl⟩ := row_split r
  obtain ⟨e, q, rfl⟩ := feat_split k
  have hx := row_norm _ _ _ (hp c).1 i
  have ha := col_norm _ _ _ (hp e).2 q
  simp only [hI.x] at hx
  simp only [hI.a] at ha
  unfold feat
  exact inner_bound (fun d => X (ix2 (rowOf c i) d)) (fun d => A (ix2 d (featOf e q))) hx ha

end Kernel

end Cert.KernelIdeal.Fused

end
-- ==== Proof.lean ====
/-
  The certificate. The run of the kernel is proof/Proof/Run.lean, for any floats; proof/Proof/Same.lean reads it at the
  program as printed. What the run computes, over the extended reals, is proof/Proof/Value.lean, and that this is the
  reference's layer is proof/Proof/Layer.lean; that the clip changes nothing of bounded inputs is proof/Proof/Guard.lean.
-/
module

public import proofs.«01_k».proof.Defs
public import proofs.«01_k».proof.Proof.Same
public import proofs.«01_k».proof.Proof.Layer
public import proofs.«01_k».proof.Proof.Guard
public import proofs.«01_k».proof.Proof.Gen.Kernel
public import proofs.«01_k».proof.Proof.Gen.KernelIdeal
public import proofs.«01_k».proof.Proof.Gen.ReferenceIdeal.Run
public import proofs.«01_k».proof.Proof.Gen.GuardedIdeal.Run
public import proofs.«01_k».proof.Proof.Gen.Pre_bounded_KernelIdeal
public import proofs.«01_k».proof.Proof.Gen.Pre_bounded_GuardedIdeal
public import Idealize.ShloMosaic.Adequacy
public import Idealize.ShloMosaic.Init

@[expose] public section

noncomputable section

namespace Cert.Proof

open Idealize.ShloMosaic Idealize.SL.Sem

/-- The kernel as printed runs, keeps its arguments and leaves every counter at zero. -/
theorem frame_kernel : Cert.quiescent_Kernel := fun m g _ => Cert.KernelIdeal.Fused.runs (F := Bits) m g

/-- So does the kernel over the extended reals. -/
theorem frame_ideal : Cert.quiescent_KernelIdeal := fun m g _ => Cert.KernelIdeal.Fused.runs_ideal (F := Ideal) m g

/-- So does the reference, which has no counters at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Kernel and reference compute the same function: each device's block of the kernel's result is its block of the layer,
    which is the reference's result. -/
theorem algebraic : Cert.algebraic_KernelIdeal_ReferenceIdeal := by
  intro m g m' g' _ hargs
  refine ⟨Cert.KernelIdeal.Fused.layer
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1))
    (m' (((0 : Dev Cert.ReferenceIdeal.nD).tc : Thread _ Cert.ReferenceIdeal.τ).loc Cert.ReferenceIdeal.main_arg2)), ?_, ?_⟩
  · have hcut := Cert.KernelIdeal.Fused.cut_of_blocks (Cert.KernelIdeal.Fused.inp (F := Ideal) m)
      (fun c => (hargs c).1) (fun c => (hargs c).2.1) (fun c => (hargs c).2.2)
    exact (θ_run Cert.KernelIdeal.defs _ _).mono
      (fun r h c => ⟨((h.1 c).2.2.2).trans (Cert.KernelIdeal.Fused.res_layer hcut c), (h.1 c).1, (h.1 c).2.1, (h.1 c).2.2.1⟩)
      (Cert.KernelIdeal.Fused.run_main (F := Ideal) m g)
  · exact (θ_run Cert.ReferenceIdeal.defs _ _).mono (fun r h => h 0) (Cert.ReferenceIdeal.Value.run (F := Ideal) m' g')

/-- The reference with its clip runs and keeps its arguments. -/
theorem frame_guarded : Cert.quiescent_GuardedIdeal := fun m g _ =>
  (θ_run Cert.GuardedIdeal.defs _ _).mono (fun r h => ⟨fun c => (h c).2, sem_eq_zero_of_no_sems (by decide) r.2⟩)
    (Cert.GuardedIdeal.Value.run (F := Ideal) m g)

/-- Of bounded inputs the kernel and the reference with its clip compute the same function. -/
theorem algebraic_guarded : Cert.algebraic_KernelIdeal_GuardedIdeal_pre_bounded_KernelIdeal := by
  intro m g m' g' hpre hargs
  have hcut := Cert.KernelIdeal.Fused.cut_of_blocks (Cert.KernelIdeal.Fused.inp (F := Ideal) m)
    (fun c => (hargs c).1) (fun c => (hargs c).2.1) (fun c => (hargs c).2.2)
  have hbound := Cert.KernelIdeal.Fused.feat_bound hcut hpre
  refine ⟨Cert.KernelIdeal.Fused.layer
    (m' (((0 : Dev Cert.GuardedIdeal.nD).tc : Thread _ Cert.GuardedIdeal.τ).loc Cert.GuardedIdeal.main_arg0))
    (m' (((0 : Dev Cert.GuardedIdeal.nD).tc : Thread _ Cert.GuardedIdeal.τ).loc Cert.GuardedIdeal.main_arg1))
    (m' (((0 : Dev Cert.GuardedIdeal.nD).tc : Thread _ Cert.GuardedIdeal.τ).loc Cert.GuardedIdeal.main_arg2)), ?_, ?_⟩
  · exact (θ_run Cert.KernelIdeal.defs _ _).mono
      (fun r h c => ⟨((h.1 c).2.2.2).trans (Cert.KernelIdeal.Fused.res_layer hcut c), (h.1 c).1, (h.1 c).2.1, (h.1 c).2.2.1⟩)
      (Cert.KernelIdeal.Fused.run_main (F := Ideal) m g)
  · exact (θ_run Cert.GuardedIdeal.defs _ _).mono
      (fun r h => ⟨(h 0).1.trans (Cert.KernelIdeal.Fused.guarded_eq _ _ _ hbound), (h 0).2⟩) (Cert.GuardedIdeal.Value.run (F := Ideal) m' g')

theorem claim : Cert.Claim :=
  ⟨Cert.Kernel.Gen.facts, Cert.KernelIdeal.Gen.facts, Cert.ReferenceIdeal.Gen.facts, Cert.GuardedIdeal.Gen.facts,
    Cert.Pre_bounded_KernelIdeal.Gen.facts, Cert.Pre_bounded_GuardedIdeal.Gen.facts,
    frame_kernel, frame_ideal, fun m g _ => frame_ideal m g trivial, frame_reference, frame_guarded, fun m g _ => frame_guarded m g trivial,
    trivial, algebraic, algebraic_guarded⟩

end Cert.Proof

end
